-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S32x8x256 : Shape := ⟨3, ![32, 8, 256]⟩
abbrev S8x256 : Shape := ⟨2, ![8, 256]⟩
abbrev S32 : Shape := ⟨1, ![32]⟩
abbrev S_ : Shape := ⟨0, ![]⟩
abbrev S1 : Shape := ⟨1, ![1]⟩
abbrev S1x8x256 : Shape := ⟨3, ![1, 8, 256]⟩

abbrev nBuf : Space → Nat
  | .hbm => 5
  | .vmem => 8
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S512x256, .bf16⟩
  | .hbm, ⟨4, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S256x512, .bf16⟩
  | .local _ .vmem, ⟨3, _⟩ => ⟨S512x256, .bf16⟩
  | .local _ .vmem, ⟨4, _⟩ => ⟨S256x256, .f32⟩
  | .local _ .vmem, ⟨5, _⟩ => ⟨S256x256, .f32⟩
  | .local _ .vmem, ⟨6, _⟩ => ⟨S32x8x256, .f32⟩
  | .local _ .vmem, ⟨7, _⟩ => ⟨S8x256, .f32⟩
  | _, _ => ⟨S256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 133 → Bool
  | ⟨i, _⟩ => dmaSemScopedAt i

abbrev sig : RefSig :=
  (ofTc nBuf bufTy 2 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_734 : BitVec 32 := 0#32
  let c0_i32_732 : BitVec 32 := 0#32
  let c1_i32_733 : BitVec 32 := 1#32
  let v646 : BitVec 32 := Scalar.muli c0_i32_732 c1_i32_733
  let v647 : BitVec 32 := Scalar.addi c0_i32_734 v646
  v647.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_734 : BitVec 32 := 0#32
  let c1_i32_732 : BitVec 32 := 1#32
  let c1_i32_733 : BitVec 32 := 1#32
  let v646 : BitVec 32 := Scalar.muli c1_i32_732 c1_i32_733
  let v647 : BitVec 32 := Scalar.addi c0_i32_734 v646
  v647.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_734 : BitVec 32 := 0#32
  let c2_i32_732 : BitVec 32 := 2#32
  let c1_i32_733 : BitVec 32 := 1#32
  let v646 : BitVec 32 := Scalar.muli c2_i32_732 c1_i32_733
  let v647 : BitVec 32 := Scalar.addi c0_i32_734 v646
  v647.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_734 : BitVec 32 := 0#32
  let c3_i32_732 : BitVec 32 := 3#32
  let c1_i32_733 : BitVec 32 := 1#32
  let v646 : BitVec 32 := Scalar.muli c3_i32_732 c1_i32_733
  let v647 : BitVec 32 := Scalar.addi c0_i32_734 v646
  v647.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_734 : BitVec 32 := 0#32
  let c4_i32_732 : BitVec 32 := 4#32
  let c1_i32_733 : BitVec 32 := 1#32
  let v646 : BitVec 32 := Scalar.muli c4_i32_732 c1_i32_733
  let v647 : BitVec 32 := Scalar.addi c0_i32_734 v646
  v647.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_734 : BitVec 32 := 0#32
  let c5_i32_732 : BitVec 32 := 5#32
  let c1_i32_733 : BitVec 32 := 1#32
  let v646 : BitVec 32 := Scalar.muli c5_i32_732 c1_i32_733
  let v647 : BitVec 32 := Scalar.addi c0_i32_734 v646
  v647.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_734 : BitVec 32 := 0#32
  let c6_i32_732 : BitVec 32 := 6#32
  let c1_i32_733 : BitVec 32 := 1#32
  let v646 : BitVec 32 := Scalar.muli c6_i32_732 c1_i32_733
  let v647 : BitVec 32 := Scalar.addi c0_i32_734 v646
  v647.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_734 : BitVec 32 := 0#32
  let c7_i32_732 : BitVec 32 := 7#32
  let c1_i32_733 : BitVec 32 := 1#32
  let v646 : BitVec 32 := Scalar.muli c7_i32_732 c1_i32_733
  let v647 : BitVec 32 := Scalar.addi c0_i32_734 v646
  v647.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_734 : BitVec 32 := 0#32
  let c8_i32_732 : BitVec 32 := 8#32
  let c1_i32_733 : BitVec 32 := 1#32
  let v646 : BitVec 32 := Scalar.muli c8_i32_732 c1_i32_733
  let v647 : BitVec 32 := Scalar.addi c0_i32_734 v646
  v647.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_734 : BitVec 32 := 0#32
  let c9_i32_732 : BitVec 32 := 9#32
  let c1_i32_733 : BitVec 32 := 1#32
  let v646 : BitVec 32 := Scalar.muli c9_i32_732 c1_i32_733
  let v647 : BitVec 32 := Scalar.addi c0_i32_734 v646
  v647.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_734 : BitVec 32 := 0#32
  let c10_i32_732 : BitVec 32 := 10#32
  let c1_i32_733 : BitVec 32 := 1#32
  let v646 : BitVec 32 := Scalar.muli c10_i32_732 c1_i32_733
  let v647 : BitVec 32 := Scalar.addi c0_i32_734 v646
  v647.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_734 : BitVec 32 := 0#32
  let c11_i32_732 : BitVec 32 := 11#32
  let c1_i32_733 : BitVec 32 := 1#32
  let v646 : BitVec 32 := Scalar.muli c11_i32_732 c1_i32_733
  let v647 : BitVec 32 := Scalar.addi c0_i32_734 v646
  v647.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_734 : BitVec 32 := 0#32
  let c12_i32_732 : BitVec 32 := 12#32
  let c1_i32_733 : BitVec 32 := 1#32
  let v646 : BitVec 32 := Scalar.muli c12_i32_732 c1_i32_733
  let v647 : BitVec 32 := Scalar.addi c0_i32_734 v646
  v647.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_734 : BitVec 32 := 0#32
  let c13_i32_732 : BitVec 32 := 13#32
  let c1_i32_733 : BitVec 32 := 1#32
  let v646 : BitVec 32 := Scalar.muli c13_i32_732 c1_i32_733
  let v647 : BitVec 32 := Scalar.addi c0_i32_734 v646
  v647.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_734 : BitVec 32 := 0#32
  let c14_i32_732 : BitVec 32 := 14#32
  let c1_i32_733 : BitVec 32 := 1#32
  let v646 : BitVec 32 := Scalar.muli c14_i32_732 c1_i32_733
  let v647 : BitVec 32 := Scalar.addi c0_i32_734 v646
  v647.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_734 : BitVec 32 := 0#32
  let c15_i32_732 : BitVec 32 := 15#32
  let c1_i32_733 : BitVec 32 := 1#32
  let v646 : BitVec 32 := Scalar.muli c15_i32_732 c1_i32_733
  let v647 : BitVec 32 := Scalar.addi c0_i32_734 v646
  v647.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_734 : BitVec 32 := 0#32
  let c16_i32_732 : BitVec 32 := 16#32
  let c1_i32_733 : BitVec 32 := 1#32
  let v646 : BitVec 32 := Scalar.muli c16_i32_732 c1_i32_733
  let v647 : BitVec 32 := Scalar.addi c0_i32_734 v646
  v647.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_734 : BitVec 32 := 0#32
  let c17_i32_732 : BitVec 32 := 17#32
  let c1_i32_733 : BitVec 32 := 1#32
  let v646 : BitVec 32 := Scalar.muli c17_i32_732 c1_i32_733
  let v647 : BitVec 32 := Scalar.addi c0_i32_734 v646
  v647.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_734 : BitVec 32 := 0#32
  let c18_i32_732 : BitVec 32 := 18#32
  let c1_i32_733 : BitVec 32 := 1#32
  let v646 : BitVec 32 := Scalar.muli c18_i32_732 c1_i32_733
  let v647 : BitVec 32 := Scalar.addi c0_i32_734 v646
  v647.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_734 : BitVec 32 := 0#32
  let c19_i32_732 : BitVec 32 := 19#32
  let c1_i32_733 : BitVec 32 := 1#32
  let v646 : BitVec 32 := Scalar.muli c19_i32_732 c1_i32_733
  let v647 : BitVec 32 := Scalar.addi c0_i32_734 v646
  v647.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_734 : BitVec 32 := 0#32
  let c20_i32_732 : BitVec 32 := 20#32
  let c1_i32_733 : BitVec 32 := 1#32
  let v646 : BitVec 32 := Scalar.muli c20_i32_732 c1_i32_733
  let v647 : BitVec 32 := Scalar.addi c0_i32_734 v646
  v647.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_734 : BitVec 32 := 0#32
  let c21_i32_732 : BitVec 32 := 21#32
  let c1_i32_733 : BitVec 32 := 1#32
  let v646 : BitVec 32 := Scalar.muli c21_i32_732 c1_i32_733
  let v647 : BitVec 32 := Scalar.addi c0_i32_734 v646
  v647.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_734 : BitVec 32 := 0#32
  let c22_i32_732 : BitVec 32 := 22#32
  let c1_i32_733 : BitVec 32 := 1#32
  let v646 : BitVec 32 := Scalar.muli c22_i32_732 c1_i32_733
  let v647 : BitVec 32 := Scalar.addi c0_i32_734 v646
  v647.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_734 : BitVec 32 := 0#32
  let c23_i32_732 : BitVec 32 := 23#32
  let c1_i32_733 : BitVec 32 := 1#32
  let v646 : BitVec 32 := Scalar.muli c23_i32_732 c1_i32_733
  let v647 : BitVec 32 := Scalar.addi c0_i32_734 v646
  v647.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_734 : BitVec 32 := 0#32
  let c24_i32_732 : BitVec 32 := 24#32
  let c1_i32_733 : BitVec 32 := 1#32
  let v646 : BitVec 32 := Scalar.muli c24_i32_732 c1_i32_733
  let v647 : BitVec 32 := Scalar.addi c0_i32_734 v646
  v647.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_734 : BitVec 32 := 0#32
  let c25_i32_732 : BitVec 32 := 25#32
  let c1_i32_733 : BitVec 32 := 1#32
  let v646 : BitVec 32 := Scalar.muli c25_i32_732 c1_i32_733
  let v647 : BitVec 32 := Scalar.addi c0_i32_734 v646
  v647.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_734 : BitVec 32 := 0#32
  let c26_i32_732 : BitVec 32 := 26#32
  let c1_i32_733 : BitVec 32 := 1#32
  let v646 : BitVec 32 := Scalar.muli c26_i32_732 c1_i32_733
  let v647 : BitVec 32 := Scalar.addi c0_i32_734 v646
  v647.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_734 : BitVec 32 := 0#32
  let c27_i32_732 : BitVec 32 := 27#32
  let c1_i32_733 : BitVec 32 := 1#32
  let v646 : BitVec 32 := Scalar.muli c27_i32_732 c1_i32_733
  let v647 : BitVec 32 := Scalar.addi c0_i32_734 v646
  v647.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_734 : BitVec 32 := 0#32
  let c28_i32_732 : BitVec 32 := 28#32
  let c1_i32_733 : BitVec 32 := 1#32
  let v646 : BitVec 32 := Scalar.muli c28_i32_732 c1_i32_733
  let v647 : BitVec 32 := Scalar.addi c0_i32_734 v646
  v647.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_734 : BitVec 32 := 0#32
  let c29_i32_732 : BitVec 32 := 29#32
  let c1_i32_733 : BitVec 32 := 1#32
  let v646 : BitVec 32 := Scalar.muli c29_i32_732 c1_i32_733
  let v647 : BitVec 32 := Scalar.addi c0_i32_734 v646
  v647.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_734 : BitVec 32 := 0#32
  let c30_i32_732 : BitVec 32 := 30#32
  let c1_i32_733 : BitVec 32 := 1#32
  let v646 : BitVec 32 := Scalar.muli c30_i32_732 c1_i32_733
  let v647 : BitVec 32 := Scalar.addi c0_i32_734 v646
  v647.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_734 : BitVec 32 := 0#32
  let c31_i32_732 : BitVec 32 := 31#32
  let c1_i32_733 : BitVec 32 := 1#32
  let v646 : BitVec 32 := Scalar.muli c31_i32_732 c1_i32_733
  let v647 : BitVec 32 := Scalar.addi c0_i32_734 v646
  v647.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v118 : BitVec 1 := Scalar.cmpi .ne v2 c0_i32_45
  let v119 : BitVec 32 := Scalar.extui v118
  let c0_i32_47 : BitVec 32 := 0#32
  let v120 : BitVec 1 := Scalar.cmpi .ne v119 c0_i32_47
  v120

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev33 : Nat :=
  let c0_i32_733 : BitVec 32 := 0#32
  let c0_i32_731 : BitVec 32 := 0#32
  let c1_i32_732 : BitVec 32 := 1#32
  let v646 : BitVec 32 := Scalar.muli c0_i32_731 c1_i32_732
  let v647 : BitVec 32 := Scalar.addi c0_i32_733 v646
  v647.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_48 : BitVec 32 := 1#32
  let v121 : BitVec 1 := Scalar.cmpi .ne v2 c1_i32_48
  let v122 : BitVec 32 := Scalar.extui v121
  let c0_i32_50 : BitVec 32 := 0#32
  let v123 : BitVec 1 := Scalar.cmpi .ne v122 c0_i32_50
  v123

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev34 : Nat :=
  let c0_i32_733 : BitVec 32 := 0#32
  let c1_i32_731 : BitVec 32 := 1#32
  let c1_i32_732 : BitVec 32 := 1#32
  let v646 : BitVec 32 := Scalar.muli c1_i32_731 c1_i32_732
  let v647 : BitVec 32 := Scalar.addi c0_i32_733 v646
  v647.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_51 : BitVec 32 := 2#32
  let v124 : BitVec 1 := Scalar.cmpi .ne v2 c2_i32_51
  let v125 : BitVec 32 := Scalar.extui v124
  let c0_i32_53 : BitVec 32 := 0#32
  let v126 : BitVec 1 := Scalar.cmpi .ne v125 c0_i32_53
  v126

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev35 : Nat :=
  let c0_i32_733 : BitVec 32 := 0#32
  let c2_i32_731 : BitVec 32 := 2#32
  let c1_i32_732 : BitVec 32 := 1#32
  let v646 : BitVec 32 := Scalar.muli c2_i32_731 c1_i32_732
  let v647 : BitVec 32 := Scalar.addi c0_i32_733 v646
  v647.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_54 : BitVec 32 := 3#32
  let v127 : BitVec 1 := Scalar.cmpi .ne v2 c3_i32_54
  let v128 : BitVec 32 := Scalar.extui v127
  let c0_i32_56 : BitVec 32 := 0#32
  let v129 : BitVec 1 := Scalar.cmpi .ne v128 c0_i32_56
  v129

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev36 : Nat :=
  let c0_i32_733 : BitVec 32 := 0#32
  let c3_i32_731 : BitVec 32 := 3#32
  let c1_i32_732 : BitVec 32 := 1#32
  let v646 : BitVec 32 := Scalar.muli c3_i32_731 c1_i32_732
  let v647 : BitVec 32 := Scalar.addi c0_i32_733 v646
  v647.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_57 : BitVec 32 := 4#32
  let v130 : BitVec 1 := Scalar.cmpi .ne v2 c4_i32_57
  let v131 : BitVec 32 := Scalar.extui v130
  let c0_i32_59 : BitVec 32 := 0#32
  let v132 : BitVec 1 := Scalar.cmpi .ne v131 c0_i32_59
  v132

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev37 : Nat :=
  let c0_i32_733 : BitVec 32 := 0#32
  let c4_i32_731 : BitVec 32 := 4#32
  let c1_i32_732 : BitVec 32 := 1#32
  let v646 : BitVec 32 := Scalar.muli c4_i32_731 c1_i32_732
  let v647 : BitVec 32 := Scalar.addi c0_i32_733 v646
  v647.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_60 : BitVec 32 := 5#32
  let v133 : BitVec 1 := Scalar.cmpi .ne v2 c5_i32_60
  let v134 : BitVec 32 := Scalar.extui v133
  let c0_i32_62 : BitVec 32 := 0#32
  let v135 : BitVec 1 := Scalar.cmpi .ne v134 c0_i32_62
  v135

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev38 : Nat :=
  let c0_i32_733 : BitVec 32 := 0#32
  let c5_i32_731 : BitVec 32 := 5#32
  let c1_i32_732 : BitVec 32 := 1#32
  let v646 : BitVec 32 := Scalar.muli c5_i32_731 c1_i32_732
  let v647 : BitVec 32 := Scalar.addi c0_i32_733 v646
  v647.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_63 : BitVec 32 := 6#32
  let v136 : BitVec 1 := Scalar.cmpi .ne v2 c6_i32_63
  let v137 : BitVec 32 := Scalar.extui v136
  let c0_i32_65 : BitVec 32 := 0#32
  let v138 : BitVec 1 := Scalar.cmpi .ne v137 c0_i32_65
  v138

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev39 : Nat :=
  let c0_i32_733 : BitVec 32 := 0#32
  let c6_i32_731 : BitVec 32 := 6#32
  let c1_i32_732 : BitVec 32 := 1#32
  let v646 : BitVec 32 := Scalar.muli c6_i32_731 c1_i32_732
  let v647 : BitVec 32 := Scalar.addi c0_i32_733 v646
  v647.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_66 : BitVec 32 := 7#32
  let v139 : BitVec 1 := Scalar.cmpi .ne v2 c7_i32_66
  let v140 : BitVec 32 := Scalar.extui v139
  let c0_i32_68 : BitVec 32 := 0#32
  let v141 : BitVec 1 := Scalar.cmpi .ne v140 c0_i32_68
  v141

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev40 : Nat :=
  let c0_i32_733 : BitVec 32 := 0#32
  let c7_i32_731 : BitVec 32 := 7#32
  let c1_i32_732 : BitVec 32 := 1#32
  let v646 : BitVec 32 := Scalar.muli c7_i32_731 c1_i32_732
  let v647 : BitVec 32 := Scalar.addi c0_i32_733 v646
  v647.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_69 : BitVec 32 := 8#32
  let v142 : BitVec 1 := Scalar.cmpi .ne v2 c8_i32_69
  let v143 : BitVec 32 := Scalar.extui v142
  let c0_i32_71 : BitVec 32 := 0#32
  let v144 : BitVec 1 := Scalar.cmpi .ne v143 c0_i32_71
  v144

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev41 : Nat :=
  let c0_i32_733 : BitVec 32 := 0#32
  let c8_i32_731 : BitVec 32 := 8#32
  let c1_i32_732 : BitVec 32 := 1#32
  let v646 : BitVec 32 := Scalar.muli c8_i32_731 c1_i32_732
  let v647 : BitVec 32 := Scalar.addi c0_i32_733 v646
  v647.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_72 : BitVec 32 := 9#32
  let v145 : BitVec 1 := Scalar.cmpi .ne v2 c9_i32_72
  let v146 : BitVec 32 := Scalar.extui v145
  let c0_i32_74 : BitVec 32 := 0#32
  let v147 : BitVec 1 := Scalar.cmpi .ne v146 c0_i32_74
  v147

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev42 : Nat :=
  let c0_i32_733 : BitVec 32 := 0#32
  let c9_i32_731 : BitVec 32 := 9#32
  let c1_i32_732 : BitVec 32 := 1#32
  let v646 : BitVec 32 := Scalar.muli c9_i32_731 c1_i32_732
  let v647 : BitVec 32 := Scalar.addi c0_i32_733 v646
  v647.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_75 : BitVec 32 := 10#32
  let v148 : BitVec 1 := Scalar.cmpi .ne v2 c10_i32_75
  let v149 : BitVec 32 := Scalar.extui v148
  let c0_i32_77 : BitVec 32 := 0#32
  let v150 : BitVec 1 := Scalar.cmpi .ne v149 c0_i32_77
  v150

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev43 : Nat :=
  let c0_i32_733 : BitVec 32 := 0#32
  let c10_i32_731 : BitVec 32 := 10#32
  let c1_i32_732 : BitVec 32 := 1#32
  let v646 : BitVec 32 := Scalar.muli c10_i32_731 c1_i32_732
  let v647 : BitVec 32 := Scalar.addi c0_i32_733 v646
  v647.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_78 : BitVec 32 := 11#32
  let v151 : BitVec 1 := Scalar.cmpi .ne v2 c11_i32_78
  let v152 : BitVec 32 := Scalar.extui v151
  let c0_i32_80 : BitVec 32 := 0#32
  let v153 : BitVec 1 := Scalar.cmpi .ne v152 c0_i32_80
  v153

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev44 : Nat :=
  let c0_i32_733 : BitVec 32 := 0#32
  let c11_i32_731 : BitVec 32 := 11#32
  let c1_i32_732 : BitVec 32 := 1#32
  let v646 : BitVec 32 := Scalar.muli c11_i32_731 c1_i32_732
  let v647 : BitVec 32 := Scalar.addi c0_i32_733 v646
  v647.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_81 : BitVec 32 := 12#32
  let v154 : BitVec 1 := Scalar.cmpi .ne v2 c12_i32_81
  let v155 : BitVec 32 := Scalar.extui v154
  let c0_i32_83 : BitVec 32 := 0#32
  let v156 : BitVec 1 := Scalar.cmpi .ne v155 c0_i32_83
  v156

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev45 : Nat :=
  let c0_i32_733 : BitVec 32 := 0#32
  let c12_i32_731 : BitVec 32 := 12#32
  let c1_i32_732 : BitVec 32 := 1#32
  let v646 : BitVec 32 := Scalar.muli c12_i32_731 c1_i32_732
  let v647 : BitVec 32 := Scalar.addi c0_i32_733 v646
  v647.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_84 : BitVec 32 := 13#32
  let v157 : BitVec 1 := Scalar.cmpi .ne v2 c13_i32_84
  let v158 : BitVec 32 := Scalar.extui v157
  let c0_i32_86 : BitVec 32 := 0#32
  let v159 : BitVec 1 := Scalar.cmpi .ne v158 c0_i32_86
  v159

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev46 : Nat :=
  let c0_i32_733 : BitVec 32 := 0#32
  let c13_i32_731 : BitVec 32 := 13#32
  let c1_i32_732 : BitVec 32 := 1#32
  let v646 : BitVec 32 := Scalar.muli c13_i32_731 c1_i32_732
  let v647 : BitVec 32 := Scalar.addi c0_i32_733 v646
  v647.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_87 : BitVec 32 := 14#32
  let v160 : BitVec 1 := Scalar.cmpi .ne v2 c14_i32_87
  let v161 : BitVec 32 := Scalar.extui v160
  let c0_i32_89 : BitVec 32 := 0#32
  let v162 : BitVec 1 := Scalar.cmpi .ne v161 c0_i32_89
  v162

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev47 : Nat :=
  let c0_i32_733 : BitVec 32 := 0#32
  let c14_i32_731 : BitVec 32 := 14#32
  let c1_i32_732 : BitVec 32 := 1#32
  let v646 : BitVec 32 := Scalar.muli c14_i32_731 c1_i32_732
  let v647 : BitVec 32 := Scalar.addi c0_i32_733 v646
  v647.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_90 : BitVec 32 := 15#32
  let v163 : BitVec 1 := Scalar.cmpi .ne v2 c15_i32_90
  let v164 : BitVec 32 := Scalar.extui v163
  let c0_i32_92 : BitVec 32 := 0#32
  let v165 : BitVec 1 := Scalar.cmpi .ne v164 c0_i32_92
  v165

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev48 : Nat :=
  let c0_i32_733 : BitVec 32 := 0#32
  let c15_i32_731 : BitVec 32 := 15#32
  let c1_i32_732 : BitVec 32 := 1#32
  let v646 : BitVec 32 := Scalar.muli c15_i32_731 c1_i32_732
  let v647 : BitVec 32 := Scalar.addi c0_i32_733 v646
  v647.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_93 : BitVec 32 := 16#32
  let v166 : BitVec 1 := Scalar.cmpi .ne v2 c16_i32_93
  let v167 : BitVec 32 := Scalar.extui v166
  let c0_i32_95 : BitVec 32 := 0#32
  let v168 : BitVec 1 := Scalar.cmpi .ne v167 c0_i32_95
  v168

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev49 : Nat :=
  let c0_i32_733 : BitVec 32 := 0#32
  let c16_i32_731 : BitVec 32 := 16#32
  let c1_i32_732 : BitVec 32 := 1#32
  let v646 : BitVec 32 := Scalar.muli c16_i32_731 c1_i32_732
  let v647 : BitVec 32 := Scalar.addi c0_i32_733 v646
  v647.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_96 : BitVec 32 := 17#32
  let v169 : BitVec 1 := Scalar.cmpi .ne v2 c17_i32_96
  let v170 : BitVec 32 := Scalar.extui v169
  let c0_i32_98 : BitVec 32 := 0#32
  let v171 : BitVec 1 := Scalar.cmpi .ne v170 c0_i32_98
  v171

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev50 : Nat :=
  let c0_i32_733 : BitVec 32 := 0#32
  let c17_i32_731 : BitVec 32 := 17#32
  let c1_i32_732 : BitVec 32 := 1#32
  let v646 : BitVec 32 := Scalar.muli c17_i32_731 c1_i32_732
  let v647 : BitVec 32 := Scalar.addi c0_i32_733 v646
  v647.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_99 : BitVec 32 := 18#32
  let v172 : BitVec 1 := Scalar.cmpi .ne v2 c18_i32_99
  let v173 : BitVec 32 := Scalar.extui v172
  let c0_i32_101 : BitVec 32 := 0#32
  let v174 : BitVec 1 := Scalar.cmpi .ne v173 c0_i32_101
  v174

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev51 : Nat :=
  let c0_i32_733 : BitVec 32 := 0#32
  let c18_i32_731 : BitVec 32 := 18#32
  let c1_i32_732 : BitVec 32 := 1#32
  let v646 : BitVec 32 := Scalar.muli c18_i32_731 c1_i32_732
  let v647 : BitVec 32 := Scalar.addi c0_i32_733 v646
  v647.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_102 : BitVec 32 := 19#32
  let v175 : BitVec 1 := Scalar.cmpi .ne v2 c19_i32_102
  let v176 : BitVec 32 := Scalar.extui v175
  let c0_i32_104 : BitVec 32 := 0#32
  let v177 : BitVec 1 := Scalar.cmpi .ne v176 c0_i32_104
  v177

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev52 : Nat :=
  let c0_i32_733 : BitVec 32 := 0#32
  let c19_i32_731 : BitVec 32 := 19#32
  let c1_i32_732 : BitVec 32 := 1#32
  let v646 : BitVec 32 := Scalar.muli c19_i32_731 c1_i32_732
  let v647 : BitVec 32 := Scalar.addi c0_i32_733 v646
  v647.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_105 : BitVec 32 := 20#32
  let v178 : BitVec 1 := Scalar.cmpi .ne v2 c20_i32_105
  let v179 : BitVec 32 := Scalar.extui v178
  let c0_i32_107 : BitVec 32 := 0#32
  let v180 : BitVec 1 := Scalar.cmpi .ne v179 c0_i32_107
  v180

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev53 : Nat :=
  let c0_i32_733 : BitVec 32 := 0#32
  let c20_i32_731 : BitVec 32 := 20#32
  let c1_i32_732 : BitVec 32 := 1#32
  let v646 : BitVec 32 := Scalar.muli c20_i32_731 c1_i32_732
  let v647 : BitVec 32 := Scalar.addi c0_i32_733 v646
  v647.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_108 : BitVec 32 := 21#32
  let v181 : BitVec 1 := Scalar.cmpi .ne v2 c21_i32_108
  let v182 : BitVec 32 := Scalar.extui v181
  let c0_i32_110 : BitVec 32 := 0#32
  let v183 : BitVec 1 := Scalar.cmpi .ne v182 c0_i32_110
  v183

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev54 : Nat :=
  let c0_i32_733 : BitVec 32 := 0#32
  let c21_i32_731 : BitVec 32 := 21#32
  let c1_i32_732 : BitVec 32 := 1#32
  let v646 : BitVec 32 := Scalar.muli c21_i32_731 c1_i32_732
  let v647 : BitVec 32 := Scalar.addi c0_i32_733 v646
  v647.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_111 : BitVec 32 := 22#32
  let v184 : BitVec 1 := Scalar.cmpi .ne v2 c22_i32_111
  let v185 : BitVec 32 := Scalar.extui v184
  let c0_i32_113 : BitVec 32 := 0#32
  let v186 : BitVec 1 := Scalar.cmpi .ne v185 c0_i32_113
  v186

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev55 : Nat :=
  let c0_i32_733 : BitVec 32 := 0#32
  let c22_i32_731 : BitVec 32 := 22#32
  let c1_i32_732 : BitVec 32 := 1#32
  let v646 : BitVec 32 := Scalar.muli c22_i32_731 c1_i32_732
  let v647 : BitVec 32 := Scalar.addi c0_i32_733 v646
  v647.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_114 : BitVec 32 := 23#32
  let v187 : BitVec 1 := Scalar.cmpi .ne v2 c23_i32_114
  let v188 : BitVec 32 := Scalar.extui v187
  let c0_i32_116 : BitVec 32 := 0#32
  let v189 : BitVec 1 := Scalar.cmpi .ne v188 c0_i32_116
  v189

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev56 : Nat :=
  let c0_i32_733 : BitVec 32 := 0#32
  let c23_i32_731 : BitVec 32 := 23#32
  let c1_i32_732 : BitVec 32 := 1#32
  let v646 : BitVec 32 := Scalar.muli c23_i32_731 c1_i32_732
  let v647 : BitVec 32 := Scalar.addi c0_i32_733 v646
  v647.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_117 : BitVec 32 := 24#32
  let v190 : BitVec 1 := Scalar.cmpi .ne v2 c24_i32_117
  let v191 : BitVec 32 := Scalar.extui v190
  let c0_i32_119 : BitVec 32 := 0#32
  let v192 : BitVec 1 := Scalar.cmpi .ne v191 c0_i32_119
  v192

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev57 : Nat :=
  let c0_i32_733 : BitVec 32 := 0#32
  let c24_i32_731 : BitVec 32 := 24#32
  let c1_i32_732 : BitVec 32 := 1#32
  let v646 : BitVec 32 := Scalar.muli c24_i32_731 c1_i32_732
  let v647 : BitVec 32 := Scalar.addi c0_i32_733 v646
  v647.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_120 : BitVec 32 := 25#32
  let v193 : BitVec 1 := Scalar.cmpi .ne v2 c25_i32_120
  let v194 : BitVec 32 := Scalar.extui v193
  let c0_i32_122 : BitVec 32 := 0#32
  let v195 : BitVec 1 := Scalar.cmpi .ne v194 c0_i32_122
  v195

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev58 : Nat :=
  let c0_i32_733 : BitVec 32 := 0#32
  let c25_i32_731 : BitVec 32 := 25#32
  let c1_i32_732 : BitVec 32 := 1#32
  let v646 : BitVec 32 := Scalar.muli c25_i32_731 c1_i32_732
  let v647 : BitVec 32 := Scalar.addi c0_i32_733 v646
  v647.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_123 : BitVec 32 := 26#32
  let v196 : BitVec 1 := Scalar.cmpi .ne v2 c26_i32_123
  let v197 : BitVec 32 := Scalar.extui v196
  let c0_i32_125 : BitVec 32 := 0#32
  let v198 : BitVec 1 := Scalar.cmpi .ne v197 c0_i32_125
  v198

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev59 : Nat :=
  let c0_i32_733 : BitVec 32 := 0#32
  let c26_i32_731 : BitVec 32 := 26#32
  let c1_i32_732 : BitVec 32 := 1#32
  let v646 : BitVec 32 := Scalar.muli c26_i32_731 c1_i32_732
  let v647 : BitVec 32 := Scalar.addi c0_i32_733 v646
  v647.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_126 : BitVec 32 := 27#32
  let v199 : BitVec 1 := Scalar.cmpi .ne v2 c27_i32_126
  let v200 : BitVec 32 := Scalar.extui v199
  let c0_i32_128 : BitVec 32 := 0#32
  let v201 : BitVec 1 := Scalar.cmpi .ne v200 c0_i32_128
  v201

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev60 : Nat :=
  let c0_i32_733 : BitVec 32 := 0#32
  let c27_i32_731 : BitVec 32 := 27#32
  let c1_i32_732 : BitVec 32 := 1#32
  let v646 : BitVec 32 := Scalar.muli c27_i32_731 c1_i32_732
  let v647 : BitVec 32 := Scalar.addi c0_i32_733 v646
  v647.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_129 : BitVec 32 := 28#32
  let v202 : BitVec 1 := Scalar.cmpi .ne v2 c28_i32_129
  let v203 : BitVec 32 := Scalar.extui v202
  let c0_i32_131 : BitVec 32 := 0#32
  let v204 : BitVec 1 := Scalar.cmpi .ne v203 c0_i32_131
  v204

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev61 : Nat :=
  let c0_i32_733 : BitVec 32 := 0#32
  let c28_i32_731 : BitVec 32 := 28#32
  let c1_i32_732 : BitVec 32 := 1#32
  let v646 : BitVec 32 := Scalar.muli c28_i32_731 c1_i32_732
  let v647 : BitVec 32 := Scalar.addi c0_i32_733 v646
  v647.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_132 : BitVec 32 := 29#32
  let v205 : BitVec 1 := Scalar.cmpi .ne v2 c29_i32_132
  let v206 : BitVec 32 := Scalar.extui v205
  let c0_i32_134 : BitVec 32 := 0#32
  let v207 : BitVec 1 := Scalar.cmpi .ne v206 c0_i32_134
  v207

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev62 : Nat :=
  let c0_i32_733 : BitVec 32 := 0#32
  let c29_i32_731 : BitVec 32 := 29#32
  let c1_i32_732 : BitVec 32 := 1#32
  let v646 : BitVec 32 := Scalar.muli c29_i32_731 c1_i32_732
  let v647 : BitVec 32 := Scalar.addi c0_i32_733 v646
  v647.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_135 : BitVec 32 := 30#32
  let v208 : BitVec 1 := Scalar.cmpi .ne v2 c30_i32_135
  let v209 : BitVec 32 := Scalar.extui v208
  let c0_i32_137 : BitVec 32 := 0#32
  let v210 : BitVec 1 := Scalar.cmpi .ne v209 c0_i32_137
  v210

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev63 : Nat :=
  let c0_i32_733 : BitVec 32 := 0#32
  let c30_i32_731 : BitVec 32 := 30#32
  let c1_i32_732 : BitVec 32 := 1#32
  let v646 : BitVec 32 := Scalar.muli c30_i32_731 c1_i32_732
  let v647 : BitVec 32 := Scalar.addi c0_i32_733 v646
  v647.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_138 : BitVec 32 := 31#32
  let v211 : BitVec 1 := Scalar.cmpi .ne v2 c31_i32_138
  let v212 : BitVec 32 := Scalar.extui v211
  let c0_i32_140 : BitVec 32 := 0#32
  let v213 : BitVec 1 := Scalar.cmpi .ne v212 c0_i32_140
  v213

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_dev64 : Nat :=
  let c0_i32_733 : BitVec 32 := 0#32
  let c31_i32_731 : BitVec 32 := 31#32
  let c1_i32_732 : BitVec 32 := 1#32
  let v646 : BitVec 32 := Scalar.muli c31_i32_731 c1_i32_732
  let v647 : BitVec 32 := Scalar.addi c0_i32_733 v646
  v647.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v214 : BitVec 32 := Scalar.muli v2 c8_i32_141
  let v215 : Index := Scalar.indexCast v214
  let c0_142 : Index := 0#32
  ![v215.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v217 : Index := Scalar.indexCast v2
  let c0_143 : Index := 0#32
  let c0_144 : Index := 0#32
  ![v217.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_348 : BitVec 32 := 0#32
  let v327 : BitVec 1 := Scalar.cmpi .ne v2 c0_i32_348
  let v328 : BitVec 32 := Scalar.extui v327
  let c0_i32_350 : BitVec 32 := 0#32
  let v329 : BitVec 1 := Scalar.cmpi .ne v328 c0_i32_350
  v329

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_347 : BitVec 32 := 8#32
  let v326 : BitVec 32 := Scalar.muli v2 c8_i32_347
  let c0_i32_734 : BitVec 32 := 0#32
  ![v326.toNat, 0]
def k0_dev65 : Nat :=
  let c0_i32_733 : BitVec 32 := 0#32
  let c0_i32_731 : BitVec 32 := 0#32
  let c1_i32_732 : BitVec 32 := 1#32
  let v646 : BitVec 32 := Scalar.muli c0_i32_731 c1_i32_732
  let v647 : BitVec 32 := Scalar.addi c0_i32_733 v646
  v647.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_352 : BitVec 32 := 1#32
  let v331 : BitVec 1 := Scalar.cmpi .ne v2 c1_i32_352
  let v332 : BitVec 32 := Scalar.extui v331
  let c0_i32_354 : BitVec 32 := 0#32
  let v333 : BitVec 1 := Scalar.cmpi .ne v332 c0_i32_354
  v333

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_351 : BitVec 32 := 8#32
  let v330 : BitVec 32 := Scalar.muli v2 c8_i32_351
  let c0_i32_734 : BitVec 32 := 0#32
  ![v330.toNat, 0]
def k0_dev66 : Nat :=
  let c0_i32_733 : BitVec 32 := 0#32
  let c1_i32_731 : BitVec 32 := 1#32
  let c1_i32_732 : BitVec 32 := 1#32
  let v646 : BitVec 32 := Scalar.muli c1_i32_731 c1_i32_732
  let v647 : BitVec 32 := Scalar.addi c0_i32_733 v646
  v647.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_356 : BitVec 32 := 2#32
  let v335 : BitVec 1 := Scalar.cmpi .ne v2 c2_i32_356
  let v336 : BitVec 32 := Scalar.extui v335
  let c0_i32_358 : BitVec 32 := 0#32
  let v337 : BitVec 1 := Scalar.cmpi .ne v336 c0_i32_358
  v337

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_355 : BitVec 32 := 8#32
  let v334 : BitVec 32 := Scalar.muli v2 c8_i32_355
  let c0_i32_734 : BitVec 32 := 0#32
  ![v334.toNat, 0]
def k0_dev67 : Nat :=
  let c0_i32_733 : BitVec 32 := 0#32
  let c2_i32_731 : BitVec 32 := 2#32
  let c1_i32_732 : BitVec 32 := 1#32
  let v646 : BitVec 32 := Scalar.muli c2_i32_731 c1_i32_732
  let v647 : BitVec 32 := Scalar.addi c0_i32_733 v646
  v647.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_360 : BitVec 32 := 3#32
  let v339 : BitVec 1 := Scalar.cmpi .ne v2 c3_i32_360
  let v340 : BitVec 32 := Scalar.extui v339
  let c0_i32_362 : BitVec 32 := 0#32
  let v341 : BitVec 1 := Scalar.cmpi .ne v340 c0_i32_362
  v341

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_359 : BitVec 32 := 8#32
  let v338 : BitVec 32 := Scalar.muli v2 c8_i32_359
  let c0_i32_734 : BitVec 32 := 0#32
  ![v338.toNat, 0]
def k0_dev68 : Nat :=
  let c0_i32_733 : BitVec 32 := 0#32
  let c3_i32_731 : BitVec 32 := 3#32
  let c1_i32_732 : BitVec 32 := 1#32
  let v646 : BitVec 32 := Scalar.muli c3_i32_731 c1_i32_732
  let v647 : BitVec 32 := Scalar.addi c0_i32_733 v646
  v647.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_364 : BitVec 32 := 4#32
  let v343 : BitVec 1 := Scalar.cmpi .ne v2 c4_i32_364
  let v344 : BitVec 32 := Scalar.extui v343
  let c0_i32_366 : BitVec 32 := 0#32
  let v345 : BitVec 1 := Scalar.cmpi .ne v344 c0_i32_366
  v345

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_363 : BitVec 32 := 8#32
  let v342 : BitVec 32 := Scalar.muli v2 c8_i32_363
  let c0_i32_734 : BitVec 32 := 0#32
  ![v342.toNat, 0]
def k0_dev69 : Nat :=
  let c0_i32_733 : BitVec 32 := 0#32
  let c4_i32_731 : BitVec 32 := 4#32
  let c1_i32_732 : BitVec 32 := 1#32
  let v646 : BitVec 32 := Scalar.muli c4_i32_731 c1_i32_732
  let v647 : BitVec 32 := Scalar.addi c0_i32_733 v646
  v647.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_368 : BitVec 32 := 5#32
  let v347 : BitVec 1 := Scalar.cmpi .ne v2 c5_i32_368
  let v348 : BitVec 32 := Scalar.extui v347
  let c0_i32_370 : BitVec 32 := 0#32
  let v349 : BitVec 1 := Scalar.cmpi .ne v348 c0_i32_370
  v349

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_367 : BitVec 32 := 8#32
  let v346 : BitVec 32 := Scalar.muli v2 c8_i32_367
  let c0_i32_734 : BitVec 32 := 0#32
  ![v346.toNat, 0]
def k0_dev70 : Nat :=
  let c0_i32_733 : BitVec 32 := 0#32
  let c5_i32_731 : BitVec 32 := 5#32
  let c1_i32_732 : BitVec 32 := 1#32
  let v646 : BitVec 32 := Scalar.muli c5_i32_731 c1_i32_732
  let v647 : BitVec 32 := Scalar.addi c0_i32_733 v646
  v647.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_372 : BitVec 32 := 6#32
  let v351 : BitVec 1 := Scalar.cmpi .ne v2 c6_i32_372
  let v352 : BitVec 32 := Scalar.extui v351
  let c0_i32_374 : BitVec 32 := 0#32
  let v353 : BitVec 1 := Scalar.cmpi .ne v352 c0_i32_374
  v353

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_371 : BitVec 32 := 8#32
  let v350 : BitVec 32 := Scalar.muli v2 c8_i32_371
  let c0_i32_734 : BitVec 32 := 0#32
  ![v350.toNat, 0]
def k0_dev71 : Nat :=
  let c0_i32_733 : BitVec 32 := 0#32
  let c6_i32_731 : BitVec 32 := 6#32
  let c1_i32_732 : BitVec 32 := 1#32
  let v646 : BitVec 32 := Scalar.muli c6_i32_731 c1_i32_732
  let v647 : BitVec 32 := Scalar.addi c0_i32_733 v646
  v647.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_376 : BitVec 32 := 7#32
  let v355 : BitVec 1 := Scalar.cmpi .ne v2 c7_i32_376
  let v356 : BitVec 32 := Scalar.extui v355
  let c0_i32_378 : BitVec 32 := 0#32
  let v357 : BitVec 1 := Scalar.cmpi .ne v356 c0_i32_378
  v357

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_375 : BitVec 32 := 8#32
  let v354 : BitVec 32 := Scalar.muli v2 c8_i32_375
  let c0_i32_734 : BitVec 32 := 0#32
  ![v354.toNat, 0]
def k0_dev72 : Nat :=
  let c0_i32_733 : BitVec 32 := 0#32
  let c7_i32_731 : BitVec 32 := 7#32
  let c1_i32_732 : BitVec 32 := 1#32
  let v646 : BitVec 32 := Scalar.muli c7_i32_731 c1_i32_732
  let v647 : BitVec 32 := Scalar.addi c0_i32_733 v646
  v647.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_380 : BitVec 32 := 8#32
  let v359 : BitVec 1 := Scalar.cmpi .ne v2 c8_i32_380
  let v360 : BitVec 32 := Scalar.extui v359
  let c0_i32_382 : BitVec 32 := 0#32
  let v361 : BitVec 1 := Scalar.cmpi .ne v360 c0_i32_382
  v361

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_379 : BitVec 32 := 8#32
  let v358 : BitVec 32 := Scalar.muli v2 c8_i32_379
  let c0_i32_734 : BitVec 32 := 0#32
  ![v358.toNat, 0]
def k0_dev73 : Nat :=
  let c0_i32_733 : BitVec 32 := 0#32
  let c8_i32_731 : BitVec 32 := 8#32
  let c1_i32_732 : BitVec 32 := 1#32
  let v646 : BitVec 32 := Scalar.muli c8_i32_731 c1_i32_732
  let v647 : BitVec 32 := Scalar.addi c0_i32_733 v646
  v647.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_384 : BitVec 32 := 9#32
  let v363 : BitVec 1 := Scalar.cmpi .ne v2 c9_i32_384
  let v364 : BitVec 32 := Scalar.extui v363
  let c0_i32_386 : BitVec 32 := 0#32
  let v365 : BitVec 1 := Scalar.cmpi .ne v364 c0_i32_386
  v365

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_383 : BitVec 32 := 8#32
  let v362 : BitVec 32 := Scalar.muli v2 c8_i32_383
  let c0_i32_734 : BitVec 32 := 0#32
  ![v362.toNat, 0]
def k0_dev74 : Nat :=
  let c0_i32_733 : BitVec 32 := 0#32
  let c9_i32_731 : BitVec 32 := 9#32
  let c1_i32_732 : BitVec 32 := 1#32
  let v646 : BitVec 32 := Scalar.muli c9_i32_731 c1_i32_732
  let v647 : BitVec 32 := Scalar.addi c0_i32_733 v646
  v647.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_388 : BitVec 32 := 10#32
  let v367 : BitVec 1 := Scalar.cmpi .ne v2 c10_i32_388
  let v368 : BitVec 32 := Scalar.extui v367
  let c0_i32_390 : BitVec 32 := 0#32
  let v369 : BitVec 1 := Scalar.cmpi .ne v368 c0_i32_390
  v369

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_387 : BitVec 32 := 8#32
  let v366 : BitVec 32 := Scalar.muli v2 c8_i32_387
  let c0_i32_734 : BitVec 32 := 0#32
  ![v366.toNat, 0]
def k0_dev75 : Nat :=
  let c0_i32_733 : BitVec 32 := 0#32
  let c10_i32_731 : BitVec 32 := 10#32
  let c1_i32_732 : BitVec 32 := 1#32
  let v646 : BitVec 32 := Scalar.muli c10_i32_731 c1_i32_732
  let v647 : BitVec 32 := Scalar.addi c0_i32_733 v646
  v647.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_392 : BitVec 32 := 11#32
  let v371 : BitVec 1 := Scalar.cmpi .ne v2 c11_i32_392
  let v372 : BitVec 32 := Scalar.extui v371
  let c0_i32_394 : BitVec 32 := 0#32
  let v373 : BitVec 1 := Scalar.cmpi .ne v372 c0_i32_394
  v373

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_391 : BitVec 32 := 8#32
  let v370 : BitVec 32 := Scalar.muli v2 c8_i32_391
  let c0_i32_734 : BitVec 32 := 0#32
  ![v370.toNat, 0]
def k0_dev76 : Nat :=
  let c0_i32_733 : BitVec 32 := 0#32
  let c11_i32_731 : BitVec 32 := 11#32
  let c1_i32_732 : BitVec 32 := 1#32
  let v646 : BitVec 32 := Scalar.muli c11_i32_731 c1_i32_732
  let v647 : BitVec 32 := Scalar.addi c0_i32_733 v646
  v647.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_396 : BitVec 32 := 12#32
  let v375 : BitVec 1 := Scalar.cmpi .ne v2 c12_i32_396
  let v376 : BitVec 32 := Scalar.extui v375
  let c0_i32_398 : BitVec 32 := 0#32
  let v377 : BitVec 1 := Scalar.cmpi .ne v376 c0_i32_398
  v377

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_395 : BitVec 32 := 8#32
  let v374 : BitVec 32 := Scalar.muli v2 c8_i32_395
  let c0_i32_734 : BitVec 32 := 0#32
  ![v374.toNat, 0]
def k0_dev77 : Nat :=
  let c0_i32_733 : BitVec 32 := 0#32
  let c12_i32_731 : BitVec 32 := 12#32
  let c1_i32_732 : BitVec 32 := 1#32
  let v646 : BitVec 32 := Scalar.muli c12_i32_731 c1_i32_732
  let v647 : BitVec 32 := Scalar.addi c0_i32_733 v646
  v647.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_400 : BitVec 32 := 13#32
  let v379 : BitVec 1 := Scalar.cmpi .ne v2 c13_i32_400
  let v380 : BitVec 32 := Scalar.extui v379
  let c0_i32_402 : BitVec 32 := 0#32
  let v381 : BitVec 1 := Scalar.cmpi .ne v380 c0_i32_402
  v381

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_399 : BitVec 32 := 8#32
  let v378 : BitVec 32 := Scalar.muli v2 c8_i32_399
  let c0_i32_734 : BitVec 32 := 0#32
  ![v378.toNat, 0]
def k0_dev78 : Nat :=
  let c0_i32_733 : BitVec 32 := 0#32
  let c13_i32_731 : BitVec 32 := 13#32
  let c1_i32_732 : BitVec 32 := 1#32
  let v646 : BitVec 32 := Scalar.muli c13_i32_731 c1_i32_732
  let v647 : BitVec 32 := Scalar.addi c0_i32_733 v646
  v647.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_404 : BitVec 32 := 14#32
  let v383 : BitVec 1 := Scalar.cmpi .ne v2 c14_i32_404
  let v384 : BitVec 32 := Scalar.extui v383
  let c0_i32_406 : BitVec 32 := 0#32
  let v385 : BitVec 1 := Scalar.cmpi .ne v384 c0_i32_406
  v385

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_403 : BitVec 32 := 8#32
  let v382 : BitVec 32 := Scalar.muli v2 c8_i32_403
  let c0_i32_734 : BitVec 32 := 0#32
  ![v382.toNat, 0]
def k0_dev79 : Nat :=
  let c0_i32_733 : BitVec 32 := 0#32
  let c14_i32_731 : BitVec 32 := 14#32
  let c1_i32_732 : BitVec 32 := 1#32
  let v646 : BitVec 32 := Scalar.muli c14_i32_731 c1_i32_732
  let v647 : BitVec 32 := Scalar.addi c0_i32_733 v646
  v647.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_408 : BitVec 32 := 15#32
  let v387 : BitVec 1 := Scalar.cmpi .ne v2 c15_i32_408
  let v388 : BitVec 32 := Scalar.extui v387
  let c0_i32_410 : BitVec 32 := 0#32
  let v389 : BitVec 1 := Scalar.cmpi .ne v388 c0_i32_410
  v389

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_407 : BitVec 32 := 8#32
  let v386 : BitVec 32 := Scalar.muli v2 c8_i32_407
  let c0_i32_734 : BitVec 32 := 0#32
  ![v386.toNat, 0]
def k0_dev80 : Nat :=
  let c0_i32_733 : BitVec 32 := 0#32
  let c15_i32_731 : BitVec 32 := 15#32
  let c1_i32_732 : BitVec 32 := 1#32
  let v646 : BitVec 32 := Scalar.muli c15_i32_731 c1_i32_732
  let v647 : BitVec 32 := Scalar.addi c0_i32_733 v646
  v647.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_412 : BitVec 32 := 16#32
  let v391 : BitVec 1 := Scalar.cmpi .ne v2 c16_i32_412
  let v392 : BitVec 32 := Scalar.extui v391
  let c0_i32_414 : BitVec 32 := 0#32
  let v393 : BitVec 1 := Scalar.cmpi .ne v392 c0_i32_414
  v393

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_411 : BitVec 32 := 8#32
  let v390 : BitVec 32 := Scalar.muli v2 c8_i32_411
  let c0_i32_734 : BitVec 32 := 0#32
  ![v390.toNat, 0]
def k0_dev81 : Nat :=
  let c0_i32_733 : BitVec 32 := 0#32
  let c16_i32_731 : BitVec 32 := 16#32
  let c1_i32_732 : BitVec 32 := 1#32
  let v646 : BitVec 32 := Scalar.muli c16_i32_731 c1_i32_732
  let v647 : BitVec 32 := Scalar.addi c0_i32_733 v646
  v647.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_416 : BitVec 32 := 17#32
  let v395 : BitVec 1 := Scalar.cmpi .ne v2 c17_i32_416
  let v396 : BitVec 32 := Scalar.extui v395
  let c0_i32_418 : BitVec 32 := 0#32
  let v397 : BitVec 1 := Scalar.cmpi .ne v396 c0_i32_418
  v397

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_415 : BitVec 32 := 8#32
  let v394 : BitVec 32 := Scalar.muli v2 c8_i32_415
  let c0_i32_734 : BitVec 32 := 0#32
  ![v394.toNat, 0]
def k0_dev82 : Nat :=
  let c0_i32_733 : BitVec 32 := 0#32
  let c17_i32_731 : BitVec 32 := 17#32
  let c1_i32_732 : BitVec 32 := 1#32
  let v646 : BitVec 32 := Scalar.muli c17_i32_731 c1_i32_732
  let v647 : BitVec 32 := Scalar.addi c0_i32_733 v646
  v647.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_420 : BitVec 32 := 18#32
  let v399 : BitVec 1 := Scalar.cmpi .ne v2 c18_i32_420
  let v400 : BitVec 32 := Scalar.extui v399
  let c0_i32_422 : BitVec 32 := 0#32
  let v401 : BitVec 1 := Scalar.cmpi .ne v400 c0_i32_422
  v401

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_419 : BitVec 32 := 8#32
  let v398 : BitVec 32 := Scalar.muli v2 c8_i32_419
  let c0_i32_734 : BitVec 32 := 0#32
  ![v398.toNat, 0]
def k0_dev83 : Nat :=
  let c0_i32_733 : BitVec 32 := 0#32
  let c18_i32_731 : BitVec 32 := 18#32
  let c1_i32_732 : BitVec 32 := 1#32
  let v646 : BitVec 32 := Scalar.muli c18_i32_731 c1_i32_732
  let v647 : BitVec 32 := Scalar.addi c0_i32_733 v646
  v647.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_424 : BitVec 32 := 19#32
  let v403 : BitVec 1 := Scalar.cmpi .ne v2 c19_i32_424
  let v404 : BitVec 32 := Scalar.extui v403
  let c0_i32_426 : BitVec 32 := 0#32
  let v405 : BitVec 1 := Scalar.cmpi .ne v404 c0_i32_426
  v405

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_423 : BitVec 32 := 8#32
  let v402 : BitVec 32 := Scalar.muli v2 c8_i32_423
  let c0_i32_734 : BitVec 32 := 0#32
  ![v402.toNat, 0]
def k0_dev84 : Nat :=
  let c0_i32_733 : BitVec 32 := 0#32
  let c19_i32_731 : BitVec 32 := 19#32
  let c1_i32_732 : BitVec 32 := 1#32
  let v646 : BitVec 32 := Scalar.muli c19_i32_731 c1_i32_732
  let v647 : BitVec 32 := Scalar.addi c0_i32_733 v646
  v647.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_428 : BitVec 32 := 20#32
  let v407 : BitVec 1 := Scalar.cmpi .ne v2 c20_i32_428
  let v408 : BitVec 32 := Scalar.extui v407
  let c0_i32_430 : BitVec 32 := 0#32
  let v409 : BitVec 1 := Scalar.cmpi .ne v408 c0_i32_430
  v409

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_427 : BitVec 32 := 8#32
  let v406 : BitVec 32 := Scalar.muli v2 c8_i32_427
  let c0_i32_734 : BitVec 32 := 0#32
  ![v406.toNat, 0]
def k0_dev85 : Nat :=
  let c0_i32_733 : BitVec 32 := 0#32
  let c20_i32_731 : BitVec 32 := 20#32
  let c1_i32_732 : BitVec 32 := 1#32
  let v646 : BitVec 32 := Scalar.muli c20_i32_731 c1_i32_732
  let v647 : BitVec 32 := Scalar.addi c0_i32_733 v646
  v647.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_432 : BitVec 32 := 21#32
  let v411 : BitVec 1 := Scalar.cmpi .ne v2 c21_i32_432
  let v412 : BitVec 32 := Scalar.extui v411
  let c0_i32_434 : BitVec 32 := 0#32
  let v413 : BitVec 1 := Scalar.cmpi .ne v412 c0_i32_434
  v413

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_431 : BitVec 32 := 8#32
  let v410 : BitVec 32 := Scalar.muli v2 c8_i32_431
  let c0_i32_734 : BitVec 32 := 0#32
  ![v410.toNat, 0]
def k0_dev86 : Nat :=
  let c0_i32_733 : BitVec 32 := 0#32
  let c21_i32_731 : BitVec 32 := 21#32
  let c1_i32_732 : BitVec 32 := 1#32
  let v646 : BitVec 32 := Scalar.muli c21_i32_731 c1_i32_732
  let v647 : BitVec 32 := Scalar.addi c0_i32_733 v646
  v647.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_436 : BitVec 32 := 22#32
  let v415 : BitVec 1 := Scalar.cmpi .ne v2 c22_i32_436
  let v416 : BitVec 32 := Scalar.extui v415
  let c0_i32_438 : BitVec 32 := 0#32
  let v417 : BitVec 1 := Scalar.cmpi .ne v416 c0_i32_438
  v417

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_435 : BitVec 32 := 8#32
  let v414 : BitVec 32 := Scalar.muli v2 c8_i32_435
  let c0_i32_734 : BitVec 32 := 0#32
  ![v414.toNat, 0]
def k0_dev87 : Nat :=
  let c0_i32_733 : BitVec 32 := 0#32
  let c22_i32_731 : BitVec 32 := 22#32
  let c1_i32_732 : BitVec 32 := 1#32
  let v646 : BitVec 32 := Scalar.muli c22_i32_731 c1_i32_732
  let v647 : BitVec 32 := Scalar.addi c0_i32_733 v646
  v647.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_440 : BitVec 32 := 23#32
  let v419 : BitVec 1 := Scalar.cmpi .ne v2 c23_i32_440
  let v420 : BitVec 32 := Scalar.extui v419
  let c0_i32_442 : BitVec 32 := 0#32
  let v421 : BitVec 1 := Scalar.cmpi .ne v420 c0_i32_442
  v421

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_439 : BitVec 32 := 8#32
  let v418 : BitVec 32 := Scalar.muli v2 c8_i32_439
  let c0_i32_734 : BitVec 32 := 0#32
  ![v418.toNat, 0]
def k0_dev88 : Nat :=
  let c0_i32_733 : BitVec 32 := 0#32
  let c23_i32_731 : BitVec 32 := 23#32
  let c1_i32_732 : BitVec 32 := 1#32
  let v646 : BitVec 32 := Scalar.muli c23_i32_731 c1_i32_732
  let v647 : BitVec 32 := Scalar.addi c0_i32_733 v646
  v647.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_444 : BitVec 32 := 24#32
  let v423 : BitVec 1 := Scalar.cmpi .ne v2 c24_i32_444
  let v424 : BitVec 32 := Scalar.extui v423
  let c0_i32_446 : BitVec 32 := 0#32
  let v425 : BitVec 1 := Scalar.cmpi .ne v424 c0_i32_446
  v425

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_443 : BitVec 32 := 8#32
  let v422 : BitVec 32 := Scalar.muli v2 c8_i32_443
  let c0_i32_734 : BitVec 32 := 0#32
  ![v422.toNat, 0]
def k0_dev89 : Nat :=
  let c0_i32_733 : BitVec 32 := 0#32
  let c24_i32_731 : BitVec 32 := 24#32
  let c1_i32_732 : BitVec 32 := 1#32
  let v646 : BitVec 32 := Scalar.muli c24_i32_731 c1_i32_732
  let v647 : BitVec 32 := Scalar.addi c0_i32_733 v646
  v647.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_448 : BitVec 32 := 25#32
  let v427 : BitVec 1 := Scalar.cmpi .ne v2 c25_i32_448
  let v428 : BitVec 32 := Scalar.extui v427
  let c0_i32_450 : BitVec 32 := 0#32
  let v429 : BitVec 1 := Scalar.cmpi .ne v428 c0_i32_450
  v429

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_447 : BitVec 32 := 8#32
  let v426 : BitVec 32 := Scalar.muli v2 c8_i32_447
  let c0_i32_734 : BitVec 32 := 0#32
  ![v426.toNat, 0]
def k0_dev90 : Nat :=
  let c0_i32_733 : BitVec 32 := 0#32
  let c25_i32_731 : BitVec 32 := 25#32
  let c1_i32_732 : BitVec 32 := 1#32
  let v646 : BitVec 32 := Scalar.muli c25_i32_731 c1_i32_732
  let v647 : BitVec 32 := Scalar.addi c0_i32_733 v646
  v647.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_452 : BitVec 32 := 26#32
  let v431 : BitVec 1 := Scalar.cmpi .ne v2 c26_i32_452
  let v432 : BitVec 32 := Scalar.extui v431
  let c0_i32_454 : BitVec 32 := 0#32
  let v433 : BitVec 1 := Scalar.cmpi .ne v432 c0_i32_454
  v433

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_451 : BitVec 32 := 8#32
  let v430 : BitVec 32 := Scalar.muli v2 c8_i32_451
  let c0_i32_734 : BitVec 32 := 0#32
  ![v430.toNat, 0]
def k0_dev91 : Nat :=
  let c0_i32_733 : BitVec 32 := 0#32
  let c26_i32_731 : BitVec 32 := 26#32
  let c1_i32_732 : BitVec 32 := 1#32
  let v646 : BitVec 32 := Scalar.muli c26_i32_731 c1_i32_732
  let v647 : BitVec 32 := Scalar.addi c0_i32_733 v646
  v647.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_456 : BitVec 32 := 27#32
  let v435 : BitVec 1 := Scalar.cmpi .ne v2 c27_i32_456
  let v436 : BitVec 32 := Scalar.extui v435
  let c0_i32_458 : BitVec 32 := 0#32
  let v437 : BitVec 1 := Scalar.cmpi .ne v436 c0_i32_458
  v437

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_455 : BitVec 32 := 8#32
  let v434 : BitVec 32 := Scalar.muli v2 c8_i32_455
  let c0_i32_734 : BitVec 32 := 0#32
  ![v434.toNat, 0]
def k0_dev92 : Nat :=
  let c0_i32_733 : BitVec 32 := 0#32
  let c27_i32_731 : BitVec 32 := 27#32
  let c1_i32_732 : BitVec 32 := 1#32
  let v646 : BitVec 32 := Scalar.muli c27_i32_731 c1_i32_732
  let v647 : BitVec 32 := Scalar.addi c0_i32_733 v646
  v647.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_460 : BitVec 32 := 28#32
  let v439 : BitVec 1 := Scalar.cmpi .ne v2 c28_i32_460
  let v440 : BitVec 32 := Scalar.extui v439
  let c0_i32_462 : BitVec 32 := 0#32
  let v441 : BitVec 1 := Scalar.cmpi .ne v440 c0_i32_462
  v441

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_459 : BitVec 32 := 8#32
  let v438 : BitVec 32 := Scalar.muli v2 c8_i32_459
  let c0_i32_734 : BitVec 32 := 0#32
  ![v438.toNat, 0]
def k0_dev93 : Nat :=
  let c0_i32_733 : BitVec 32 := 0#32
  let c28_i32_731 : BitVec 32 := 28#32
  let c1_i32_732 : BitVec 32 := 1#32
  let v646 : BitVec 32 := Scalar.muli c28_i32_731 c1_i32_732
  let v647 : BitVec 32 := Scalar.addi c0_i32_733 v646
  v647.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_464 : BitVec 32 := 29#32
  let v443 : BitVec 1 := Scalar.cmpi .ne v2 c29_i32_464
  let v444 : BitVec 32 := Scalar.extui v443
  let c0_i32_466 : BitVec 32 := 0#32
  let v445 : BitVec 1 := Scalar.cmpi .ne v444 c0_i32_466
  v445

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_463 : BitVec 32 := 8#32
  let v442 : BitVec 32 := Scalar.muli v2 c8_i32_463
  let c0_i32_734 : BitVec 32 := 0#32
  ![v442.toNat, 0]
def k0_dev94 : Nat :=
  let c0_i32_733 : BitVec 32 := 0#32
  let c29_i32_731 : BitVec 32 := 29#32
  let c1_i32_732 : BitVec 32 := 1#32
  let v646 : BitVec 32 := Scalar.muli c29_i32_731 c1_i32_732
  let v647 : BitVec 32 := Scalar.addi c0_i32_733 v646
  v647.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_468 : BitVec 32 := 30#32
  let v447 : BitVec 1 := Scalar.cmpi .ne v2 c30_i32_468
  let v448 : BitVec 32 := Scalar.extui v447
  let c0_i32_470 : BitVec 32 := 0#32
  let v449 : BitVec 1 := Scalar.cmpi .ne v448 c0_i32_470
  v449

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_467 : BitVec 32 := 8#32
  let v446 : BitVec 32 := Scalar.muli v2 c8_i32_467
  let c0_i32_734 : BitVec 32 := 0#32
  ![v446.toNat, 0]
def k0_dev95 : Nat :=
  let c0_i32_733 : BitVec 32 := 0#32
  let c30_i32_731 : BitVec 32 := 30#32
  let c1_i32_732 : BitVec 32 := 1#32
  let v646 : BitVec 32 := Scalar.muli c30_i32_731 c1_i32_732
  let v647 : BitVec 32 := Scalar.addi c0_i32_733 v646
  v647.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_472 : BitVec 32 := 31#32
  let v451 : BitVec 1 := Scalar.cmpi .ne v2 c31_i32_472
  let v452 : BitVec 32 := Scalar.extui v451
  let c0_i32_474 : BitVec 32 := 0#32
  let v453 : BitVec 1 := Scalar.cmpi .ne v452 c0_i32_474
  v453

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_471 : BitVec 32 := 8#32
  let v450 : BitVec 32 := Scalar.muli v2 c8_i32_471
  let c0_i32_734 : BitVec 32 := 0#32
  ![v450.toNat, 0]
def k0_dev96 : Nat :=
  let c0_i32_733 : BitVec 32 := 0#32
  let c31_i32_731 : BitVec 32 := 31#32
  let c1_i32_732 : BitVec 32 := 1#32
  let v646 : BitVec 32 := Scalar.muli c31_i32_731 c1_i32_732
  let v647 : BitVec 32 := Scalar.addi c0_i32_733 v646
  v647.toNat
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_603 : BitVec 32 := 0#32
  let v550 : BitVec 1 := Scalar.cmpi .ne v2 c0_i32_603
  let v551 : BitVec 32 := Scalar.extui v550
  let c0_i32_606 : BitVec 32 := 0#32
  let v552 : BitVec 1 := Scalar.cmpi .ne v551 c0_i32_606
  v552

def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_735 : BitVec 32 := 0#32
  let c0_i32_736 : BitVec 32 := 0#32
  ![v2.toNat, 0, 0]
def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_347 : BitVec 32 := 8#32
  let v326 : BitVec 32 := Scalar.muli v2 c8_i32_347
  let c0_i32_739 : BitVec 32 := 0#32
  ![v326.toNat, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_607 : BitVec 32 := 1#32
  let v553 : BitVec 1 := Scalar.cmpi .ne v2 c1_i32_607
  let v554 : BitVec 32 := Scalar.extui v553
  let c0_i32_610 : BitVec 32 := 0#32
  let v555 : BitVec 1 := Scalar.cmpi .ne v554 c0_i32_610
  v555

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_735 : BitVec 32 := 0#32
  let c0_i32_736 : BitVec 32 := 0#32
  ![v2.toNat, 0, 0]
def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_351 : BitVec 32 := 8#32
  let v330 : BitVec 32 := Scalar.muli v2 c8_i32_351
  let c0_i32_739 : BitVec 32 := 0#32
  ![v330.toNat, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_611 : BitVec 32 := 2#32
  let v556 : BitVec 1 := Scalar.cmpi .ne v2 c2_i32_611
  let v557 : BitVec 32 := Scalar.extui v556
  let c0_i32_614 : BitVec 32 := 0#32
  let v558 : BitVec 1 := Scalar.cmpi .ne v557 c0_i32_614
  v558

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_735 : BitVec 32 := 0#32
  let c0_i32_736 : BitVec 32 := 0#32
  ![v2.toNat, 0, 0]
def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_355 : BitVec 32 := 8#32
  let v334 : BitVec 32 := Scalar.muli v2 c8_i32_355
  let c0_i32_739 : BitVec 32 := 0#32
  ![v334.toNat, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_615 : BitVec 32 := 3#32
  let v559 : BitVec 1 := Scalar.cmpi .ne v2 c3_i32_615
  let v560 : BitVec 32 := Scalar.extui v559
  let c0_i32_618 : BitVec 32 := 0#32
  let v561 : BitVec 1 := Scalar.cmpi .ne v560 c0_i32_618
  v561

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_735 : BitVec 32 := 0#32
  let c0_i32_736 : BitVec 32 := 0#32
  ![v2.toNat, 0, 0]
def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_359 : BitVec 32 := 8#32
  let v338 : BitVec 32 := Scalar.muli v2 c8_i32_359
  let c0_i32_739 : BitVec 32 := 0#32
  ![v338.toNat, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_619 : BitVec 32 := 4#32
  let v562 : BitVec 1 := Scalar.cmpi .ne v2 c4_i32_619
  let v563 : BitVec 32 := Scalar.extui v562
  let c0_i32_622 : BitVec 32 := 0#32
  let v564 : BitVec 1 := Scalar.cmpi .ne v563 c0_i32_622
  v564

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_735 : BitVec 32 := 0#32
  let c0_i32_736 : BitVec 32 := 0#32
  ![v2.toNat, 0, 0]
def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_363 : BitVec 32 := 8#32
  let v342 : BitVec 32 := Scalar.muli v2 c8_i32_363
  let c0_i32_739 : BitVec 32 := 0#32
  ![v342.toNat, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_623 : BitVec 32 := 5#32
  let v565 : BitVec 1 := Scalar.cmpi .ne v2 c5_i32_623
  let v566 : BitVec 32 := Scalar.extui v565
  let c0_i32_626 : BitVec 32 := 0#32
  let v567 : BitVec 1 := Scalar.cmpi .ne v566 c0_i32_626
  v567

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_367 : BitVec 32 := 8#32
  let v346 : BitVec 32 := Scalar.muli v2 c8_i32_367
  let c0_i32_738 : BitVec 32 := 0#32
  ![v346.toNat, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_627 : BitVec 32 := 6#32
  let v568 : BitVec 1 := Scalar.cmpi .ne v2 c6_i32_627
  let v569 : BitVec 32 := Scalar.extui v568
  let c0_i32_630 : BitVec 32 := 0#32
  let v570 : BitVec 1 := Scalar.cmpi .ne v569 c0_i32_630
  v570

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_371 : BitVec 32 := 8#32
  let v350 : BitVec 32 := Scalar.muli v2 c8_i32_371
  let c0_i32_738 : BitVec 32 := 0#32
  ![v350.toNat, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_631 : BitVec 32 := 7#32
  let v571 : BitVec 1 := Scalar.cmpi .ne v2 c7_i32_631
  let v572 : BitVec 32 := Scalar.extui v571
  let c0_i32_634 : BitVec 32 := 0#32
  let v573 : BitVec 1 := Scalar.cmpi .ne v572 c0_i32_634
  v573

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_375 : BitVec 32 := 8#32
  let v354 : BitVec 32 := Scalar.muli v2 c8_i32_375
  let c0_i32_738 : BitVec 32 := 0#32
  ![v354.toNat, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_635 : BitVec 32 := 8#32
  let v574 : BitVec 1 := Scalar.cmpi .ne v2 c8_i32_635
  let v575 : BitVec 32 := Scalar.extui v574
  let c0_i32_638 : BitVec 32 := 0#32
  let v576 : BitVec 1 := Scalar.cmpi .ne v575 c0_i32_638
  v576

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_379 : BitVec 32 := 8#32
  let v358 : BitVec 32 := Scalar.muli v2 c8_i32_379
  let c0_i32_738 : BitVec 32 := 0#32
  ![v358.toNat, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_639 : BitVec 32 := 9#32
  let v577 : BitVec 1 := Scalar.cmpi .ne v2 c9_i32_639
  let v578 : BitVec 32 := Scalar.extui v577
  let c0_i32_642 : BitVec 32 := 0#32
  let v579 : BitVec 1 := Scalar.cmpi .ne v578 c0_i32_642
  v579

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_383 : BitVec 32 := 8#32
  let v362 : BitVec 32 := Scalar.muli v2 c8_i32_383
  let c0_i32_738 : BitVec 32 := 0#32
  ![v362.toNat, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_643 : BitVec 32 := 10#32
  let v580 : BitVec 1 := Scalar.cmpi .ne v2 c10_i32_643
  let v581 : BitVec 32 := Scalar.extui v580
  let c0_i32_646 : BitVec 32 := 0#32
  let v582 : BitVec 1 := Scalar.cmpi .ne v581 c0_i32_646
  v582

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_387 : BitVec 32 := 8#32
  let v366 : BitVec 32 := Scalar.muli v2 c8_i32_387
  let c0_i32_738 : BitVec 32 := 0#32
  ![v366.toNat, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_647 : BitVec 32 := 11#32
  let v583 : BitVec 1 := Scalar.cmpi .ne v2 c11_i32_647
  let v584 : BitVec 32 := Scalar.extui v583
  let c0_i32_650 : BitVec 32 := 0#32
  let v585 : BitVec 1 := Scalar.cmpi .ne v584 c0_i32_650
  v585

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_391 : BitVec 32 := 8#32
  let v370 : BitVec 32 := Scalar.muli v2 c8_i32_391
  let c0_i32_738 : BitVec 32 := 0#32
  ![v370.toNat, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_651 : BitVec 32 := 12#32
  let v586 : BitVec 1 := Scalar.cmpi .ne v2 c12_i32_651
  let v587 : BitVec 32 := Scalar.extui v586
  let c0_i32_654 : BitVec 32 := 0#32
  let v588 : BitVec 1 := Scalar.cmpi .ne v587 c0_i32_654
  v588

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_395 : BitVec 32 := 8#32
  let v374 : BitVec 32 := Scalar.muli v2 c8_i32_395
  let c0_i32_738 : BitVec 32 := 0#32
  ![v374.toNat, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_655 : BitVec 32 := 13#32
  let v589 : BitVec 1 := Scalar.cmpi .ne v2 c13_i32_655
  let v590 : BitVec 32 := Scalar.extui v589
  let c0_i32_658 : BitVec 32 := 0#32
  let v591 : BitVec 1 := Scalar.cmpi .ne v590 c0_i32_658
  v591

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_399 : BitVec 32 := 8#32
  let v378 : BitVec 32 := Scalar.muli v2 c8_i32_399
  let c0_i32_738 : BitVec 32 := 0#32
  ![v378.toNat, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_659 : BitVec 32 := 14#32
  let v592 : BitVec 1 := Scalar.cmpi .ne v2 c14_i32_659
  let v593 : BitVec 32 := Scalar.extui v592
  let c0_i32_662 : BitVec 32 := 0#32
  let v594 : BitVec 1 := Scalar.cmpi .ne v593 c0_i32_662
  v594

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_403 : BitVec 32 := 8#32
  let v382 : BitVec 32 := Scalar.muli v2 c8_i32_403
  let c0_i32_738 : BitVec 32 := 0#32
  ![v382.toNat, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_663 : BitVec 32 := 15#32
  let v595 : BitVec 1 := Scalar.cmpi .ne v2 c15_i32_663
  let v596 : BitVec 32 := Scalar.extui v595
  let c0_i32_666 : BitVec 32 := 0#32
  let v597 : BitVec 1 := Scalar.cmpi .ne v596 c0_i32_666
  v597

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_407 : BitVec 32 := 8#32
  let v386 : BitVec 32 := Scalar.muli v2 c8_i32_407
  let c0_i32_738 : BitVec 32 := 0#32
  ![v386.toNat, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_667 : BitVec 32 := 16#32
  let v598 : BitVec 1 := Scalar.cmpi .ne v2 c16_i32_667
  let v599 : BitVec 32 := Scalar.extui v598
  let c0_i32_670 : BitVec 32 := 0#32
  let v600 : BitVec 1 := Scalar.cmpi .ne v599 c0_i32_670
  v600

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_411 : BitVec 32 := 8#32
  let v390 : BitVec 32 := Scalar.muli v2 c8_i32_411
  let c0_i32_738 : BitVec 32 := 0#32
  ![v390.toNat, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_671 : BitVec 32 := 17#32
  let v601 : BitVec 1 := Scalar.cmpi .ne v2 c17_i32_671
  let v602 : BitVec 32 := Scalar.extui v601
  let c0_i32_674 : BitVec 32 := 0#32
  let v603 : BitVec 1 := Scalar.cmpi .ne v602 c0_i32_674
  v603

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_415 : BitVec 32 := 8#32
  let v394 : BitVec 32 := Scalar.muli v2 c8_i32_415
  let c0_i32_738 : BitVec 32 := 0#32
  ![v394.toNat, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_675 : BitVec 32 := 18#32
  let v604 : BitVec 1 := Scalar.cmpi .ne v2 c18_i32_675
  let v605 : BitVec 32 := Scalar.extui v604
  let c0_i32_678 : BitVec 32 := 0#32
  let v606 : BitVec 1 := Scalar.cmpi .ne v605 c0_i32_678
  v606

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_419 : BitVec 32 := 8#32
  let v398 : BitVec 32 := Scalar.muli v2 c8_i32_419
  let c0_i32_738 : BitVec 32 := 0#32
  ![v398.toNat, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_679 : BitVec 32 := 19#32
  let v607 : BitVec 1 := Scalar.cmpi .ne v2 c19_i32_679
  let v608 : BitVec 32 := Scalar.extui v607
  let c0_i32_682 : BitVec 32 := 0#32
  let v609 : BitVec 1 := Scalar.cmpi .ne v608 c0_i32_682
  v609

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_423 : BitVec 32 := 8#32
  let v402 : BitVec 32 := Scalar.muli v2 c8_i32_423
  let c0_i32_738 : BitVec 32 := 0#32
  ![v402.toNat, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_683 : BitVec 32 := 20#32
  let v610 : BitVec 1 := Scalar.cmpi .ne v2 c20_i32_683
  let v611 : BitVec 32 := Scalar.extui v610
  let c0_i32_686 : BitVec 32 := 0#32
  let v612 : BitVec 1 := Scalar.cmpi .ne v611 c0_i32_686
  v612

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_427 : BitVec 32 := 8#32
  let v406 : BitVec 32 := Scalar.muli v2 c8_i32_427
  let c0_i32_738 : BitVec 32 := 0#32
  ![v406.toNat, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_687 : BitVec 32 := 21#32
  let v613 : BitVec 1 := Scalar.cmpi .ne v2 c21_i32_687
  let v614 : BitVec 32 := Scalar.extui v613
  let c0_i32_690 : BitVec 32 := 0#32
  let v615 : BitVec 1 := Scalar.cmpi .ne v614 c0_i32_690
  v615

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_431 : BitVec 32 := 8#32
  let v410 : BitVec 32 := Scalar.muli v2 c8_i32_431
  let c0_i32_738 : BitVec 32 := 0#32
  ![v410.toNat, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_691 : BitVec 32 := 22#32
  let v616 : BitVec 1 := Scalar.cmpi .ne v2 c22_i32_691
  let v617 : BitVec 32 := Scalar.extui v616
  let c0_i32_694 : BitVec 32 := 0#32
  let v618 : BitVec 1 := Scalar.cmpi .ne v617 c0_i32_694
  v618

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_435 : BitVec 32 := 8#32
  let v414 : BitVec 32 := Scalar.muli v2 c8_i32_435
  let c0_i32_738 : BitVec 32 := 0#32
  ![v414.toNat, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_695 : BitVec 32 := 23#32
  let v619 : BitVec 1 := Scalar.cmpi .ne v2 c23_i32_695
  let v620 : BitVec 32 := Scalar.extui v619
  let c0_i32_698 : BitVec 32 := 0#32
  let v621 : BitVec 1 := Scalar.cmpi .ne v620 c0_i32_698
  v621

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_439 : BitVec 32 := 8#32
  let v418 : BitVec 32 := Scalar.muli v2 c8_i32_439
  let c0_i32_738 : BitVec 32 := 0#32
  ![v418.toNat, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_699 : BitVec 32 := 24#32
  let v622 : BitVec 1 := Scalar.cmpi .ne v2 c24_i32_699
  let v623 : BitVec 32 := Scalar.extui v622
  let c0_i32_702 : BitVec 32 := 0#32
  let v624 : BitVec 1 := Scalar.cmpi .ne v623 c0_i32_702
  v624

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_443 : BitVec 32 := 8#32
  let v422 : BitVec 32 := Scalar.muli v2 c8_i32_443
  let c0_i32_738 : BitVec 32 := 0#32
  ![v422.toNat, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_703 : BitVec 32 := 25#32
  let v625 : BitVec 1 := Scalar.cmpi .ne v2 c25_i32_703
  let v626 : BitVec 32 := Scalar.extui v625
  let c0_i32_706 : BitVec 32 := 0#32
  let v627 : BitVec 1 := Scalar.cmpi .ne v626 c0_i32_706
  v627

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_447 : BitVec 32 := 8#32
  let v426 : BitVec 32 := Scalar.muli v2 c8_i32_447
  let c0_i32_738 : BitVec 32 := 0#32
  ![v426.toNat, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_707 : BitVec 32 := 26#32
  let v628 : BitVec 1 := Scalar.cmpi .ne v2 c26_i32_707
  let v629 : BitVec 32 := Scalar.extui v628
  let c0_i32_710 : BitVec 32 := 0#32
  let v630 : BitVec 1 := Scalar.cmpi .ne v629 c0_i32_710
  v630

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_451 : BitVec 32 := 8#32
  let v430 : BitVec 32 := Scalar.muli v2 c8_i32_451
  let c0_i32_738 : BitVec 32 := 0#32
  ![v430.toNat, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_711 : BitVec 32 := 27#32
  let v631 : BitVec 1 := Scalar.cmpi .ne v2 c27_i32_711
  let v632 : BitVec 32 := Scalar.extui v631
  let c0_i32_714 : BitVec 32 := 0#32
  let v633 : BitVec 1 := Scalar.cmpi .ne v632 c0_i32_714
  v633

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_455 : BitVec 32 := 8#32
  let v434 : BitVec 32 := Scalar.muli v2 c8_i32_455
  let c0_i32_738 : BitVec 32 := 0#32
  ![v434.toNat, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_715 : BitVec 32 := 28#32
  let v634 : BitVec 1 := Scalar.cmpi .ne v2 c28_i32_715
  let v635 : BitVec 32 := Scalar.extui v634
  let c0_i32_718 : BitVec 32 := 0#32
  let v636 : BitVec 1 := Scalar.cmpi .ne v635 c0_i32_718
  v636

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_459 : BitVec 32 := 8#32
  let v438 : BitVec 32 := Scalar.muli v2 c8_i32_459
  let c0_i32_738 : BitVec 32 := 0#32
  ![v438.toNat, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_719 : BitVec 32 := 29#32
  let v637 : BitVec 1 := Scalar.cmpi .ne v2 c29_i32_719
  let v638 : BitVec 32 := Scalar.extui v637
  let c0_i32_722 : BitVec 32 := 0#32
  let v639 : BitVec 1 := Scalar.cmpi .ne v638 c0_i32_722
  v639

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_463 : BitVec 32 := 8#32
  let v442 : BitVec 32 := Scalar.muli v2 c8_i32_463
  let c0_i32_738 : BitVec 32 := 0#32
  ![v442.toNat, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_723 : BitVec 32 := 30#32
  let v640 : BitVec 1 := Scalar.cmpi .ne v2 c30_i32_723
  let v641 : BitVec 32 := Scalar.extui v640
  let c0_i32_726 : BitVec 32 := 0#32
  let v642 : BitVec 1 := Scalar.cmpi .ne v641 c0_i32_726
  v642

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off192 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_467 : BitVec 32 := 8#32
  let v446 : BitVec 32 := Scalar.muli v2 c8_i32_467
  let c0_i32_738 : BitVec 32 := 0#32
  ![v446.toNat, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_727 : BitVec 32 := 31#32
  let v643 : BitVec 1 := Scalar.cmpi .ne v2 c31_i32_727
  let v644 : BitVec 32 := Scalar.extui v643
  let c0_i32_730 : BitVec 32 := 0#32
  let v645 : BitVec 1 := Scalar.cmpi .ne v644 c0_i32_730
  v645

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_734 : BitVec 32 := 0#32
  let c0_i32_735 : BitVec 32 := 0#32
  ![v2.toNat, 0, 0]
def k0_off194 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_471 : BitVec 32 := 8#32
  let v450 : BitVec 32 := Scalar.muli v2 c8_i32_471
  let c0_i32_738 : BitVec 32 := 0#32
  ![v450.toNat, 0]
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_731_r0 : BitVec 32 := 0#32
  let v647_r0 : BitVec 1 := Scalar.cmpi .ne v2 c0_i32_731_r0
  let v648_r0 : BitVec 32 := Scalar.extui v647_r0
  let c0_i32_732_r0 : BitVec 32 := 0#32
  let v649_r0 : BitVec 1 := Scalar.cmpi .ne v648_r0 c0_i32_732_r0
  v649_r0

def k0_dev97 : Nat :=
  let c0_i32_800_r0 : BitVec 32 := 0#32
  let c0_i32_798_r0 : BitVec 32 := 0#32
  let c1_i32_799_r0 : BitVec 32 := 1#32
  let v743_r0 : BitVec 32 := Scalar.muli c0_i32_798_r0 c1_i32_799_r0
  let v744_r0 : BitVec 32 := Scalar.addi c0_i32_800_r0 v743_r0
  v744_r0.toNat
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_733_r0 : BitVec 32 := 1#32
  let v650_r0 : BitVec 1 := Scalar.cmpi .ne v2 c1_i32_733_r0
  let v651_r0 : BitVec 32 := Scalar.extui v650_r0
  let c0_i32_734_r0 : BitVec 32 := 0#32
  let v652_r0 : BitVec 1 := Scalar.cmpi .ne v651_r0 c0_i32_734_r0
  v652_r0

def k0_dev98 : Nat :=
  let c0_i32_800_r0 : BitVec 32 := 0#32
  let c1_i32_798_r0 : BitVec 32 := 1#32
  let c1_i32_799_r0 : BitVec 32 := 1#32
  let v743_r0 : BitVec 32 := Scalar.muli c1_i32_798_r0 c1_i32_799_r0
  let v744_r0 : BitVec 32 := Scalar.addi c0_i32_800_r0 v743_r0
  v744_r0.toNat
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_735_r0 : BitVec 32 := 2#32
  let v653_r0 : BitVec 1 := Scalar.cmpi .ne v2 c2_i32_735_r0
  let v654_r0 : BitVec 32 := Scalar.extui v653_r0
  let c0_i32_736_r0 : BitVec 32 := 0#32
  let v655_r0 : BitVec 1 := Scalar.cmpi .ne v654_r0 c0_i32_736_r0
  v655_r0

def k0_dev99 : Nat :=
  let c0_i32_800_r0 : BitVec 32 := 0#32
  let c2_i32_798_r0 : BitVec 32 := 2#32
  let c1_i32_799_r0 : BitVec 32 := 1#32
  let v743_r0 : BitVec 32 := Scalar.muli c2_i32_798_r0 c1_i32_799_r0
  let v744_r0 : BitVec 32 := Scalar.addi c0_i32_800_r0 v743_r0
  v744_r0.toNat
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_737_r0 : BitVec 32 := 3#32
  let v656_r0 : BitVec 1 := Scalar.cmpi .ne v2 c3_i32_737_r0
  let v657_r0 : BitVec 32 := Scalar.extui v656_r0
  let c0_i32_738_r0 : BitVec 32 := 0#32
  let v658_r0 : BitVec 1 := Scalar.cmpi .ne v657_r0 c0_i32_738_r0
  v658_r0

def k0_dev100 : Nat :=
  let c0_i32_800_r0 : BitVec 32 := 0#32
  let c3_i32_798_r0 : BitVec 32 := 3#32
  let c1_i32_799_r0 : BitVec 32 := 1#32
  let v743_r0 : BitVec 32 := Scalar.muli c3_i32_798_r0 c1_i32_799_r0
  let v744_r0 : BitVec 32 := Scalar.addi c0_i32_800_r0 v743_r0
  v744_r0.toNat
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_739_r0 : BitVec 32 := 4#32
  let v659_r0 : BitVec 1 := Scalar.cmpi .ne v2 c4_i32_739_r0
  let v660_r0 : BitVec 32 := Scalar.extui v659_r0
  let c0_i32_740_r0 : BitVec 32 := 0#32
  let v661_r0 : BitVec 1 := Scalar.cmpi .ne v660_r0 c0_i32_740_r0
  v661_r0

def k0_dev101 : Nat :=
  let c0_i32_800_r0 : BitVec 32 := 0#32
  let c4_i32_798_r0 : BitVec 32 := 4#32
  let c1_i32_799_r0 : BitVec 32 := 1#32
  let v743_r0 : BitVec 32 := Scalar.muli c4_i32_798_r0 c1_i32_799_r0
  let v744_r0 : BitVec 32 := Scalar.addi c0_i32_800_r0 v743_r0
  v744_r0.toNat
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_741_r0 : BitVec 32 := 5#32
  let v662_r0 : BitVec 1 := Scalar.cmpi .ne v2 c5_i32_741_r0
  let v663_r0 : BitVec 32 := Scalar.extui v662_r0
  let c0_i32_742_r0 : BitVec 32 := 0#32
  let v664_r0 : BitVec 1 := Scalar.cmpi .ne v663_r0 c0_i32_742_r0
  v664_r0

def k0_dev102 : Nat :=
  let c0_i32_800_r0 : BitVec 32 := 0#32
  let c5_i32_798_r0 : BitVec 32 := 5#32
  let c1_i32_799_r0 : BitVec 32 := 1#32
  let v743_r0 : BitVec 32 := Scalar.muli c5_i32_798_r0 c1_i32_799_r0
  let v744_r0 : BitVec 32 := Scalar.addi c0_i32_800_r0 v743_r0
  v744_r0.toNat
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_743_r0 : BitVec 32 := 6#32
  let v665_r0 : BitVec 1 := Scalar.cmpi .ne v2 c6_i32_743_r0
  let v666_r0 : BitVec 32 := Scalar.extui v665_r0
  let c0_i32_744_r0 : BitVec 32 := 0#32
  let v667_r0 : BitVec 1 := Scalar.cmpi .ne v666_r0 c0_i32_744_r0
  v667_r0

def k0_dev103 : Nat :=
  let c0_i32_800_r0 : BitVec 32 := 0#32
  let c6_i32_798_r0 : BitVec 32 := 6#32
  let c1_i32_799_r0 : BitVec 32 := 1#32
  let v743_r0 : BitVec 32 := Scalar.muli c6_i32_798_r0 c1_i32_799_r0
  let v744_r0 : BitVec 32 := Scalar.addi c0_i32_800_r0 v743_r0
  v744_r0.toNat
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_745_r0 : BitVec 32 := 7#32
  let v668_r0 : BitVec 1 := Scalar.cmpi .ne v2 c7_i32_745_r0
  let v669_r0 : BitVec 32 := Scalar.extui v668_r0
  let c0_i32_746_r0 : BitVec 32 := 0#32
  let v670_r0 : BitVec 1 := Scalar.cmpi .ne v669_r0 c0_i32_746_r0
  v670_r0

def k0_dev104 : Nat :=
  let c0_i32_800_r0 : BitVec 32 := 0#32
  let c7_i32_798_r0 : BitVec 32 := 7#32
  let c1_i32_799_r0 : BitVec 32 := 1#32
  let v743_r0 : BitVec 32 := Scalar.muli c7_i32_798_r0 c1_i32_799_r0
  let v744_r0 : BitVec 32 := Scalar.addi c0_i32_800_r0 v743_r0
  v744_r0.toNat
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_747_r0 : BitVec 32 := 8#32
  let v671_r0 : BitVec 1 := Scalar.cmpi .ne v2 c8_i32_747_r0
  let v672_r0 : BitVec 32 := Scalar.extui v671_r0
  let c0_i32_748_r0 : BitVec 32 := 0#32
  let v673_r0 : BitVec 1 := Scalar.cmpi .ne v672_r0 c0_i32_748_r0
  v673_r0

def k0_dev105 : Nat :=
  let c0_i32_800_r0 : BitVec 32 := 0#32
  let c8_i32_798_r0 : BitVec 32 := 8#32
  let c1_i32_799_r0 : BitVec 32 := 1#32
  let v743_r0 : BitVec 32 := Scalar.muli c8_i32_798_r0 c1_i32_799_r0
  let v744_r0 : BitVec 32 := Scalar.addi c0_i32_800_r0 v743_r0
  v744_r0.toNat
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_749_r0 : BitVec 32 := 9#32
  let v674_r0 : BitVec 1 := Scalar.cmpi .ne v2 c9_i32_749_r0
  let v675_r0 : BitVec 32 := Scalar.extui v674_r0
  let c0_i32_750_r0 : BitVec 32 := 0#32
  let v676_r0 : BitVec 1 := Scalar.cmpi .ne v675_r0 c0_i32_750_r0
  v676_r0

def k0_dev106 : Nat :=
  let c0_i32_800_r0 : BitVec 32 := 0#32
  let c9_i32_798_r0 : BitVec 32 := 9#32
  let c1_i32_799_r0 : BitVec 32 := 1#32
  let v743_r0 : BitVec 32 := Scalar.muli c9_i32_798_r0 c1_i32_799_r0
  let v744_r0 : BitVec 32 := Scalar.addi c0_i32_800_r0 v743_r0
  v744_r0.toNat
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_751_r0 : BitVec 32 := 10#32
  let v677_r0 : BitVec 1 := Scalar.cmpi .ne v2 c10_i32_751_r0
  let v678_r0 : BitVec 32 := Scalar.extui v677_r0
  let c0_i32_752_r0 : BitVec 32 := 0#32
  let v679_r0 : BitVec 1 := Scalar.cmpi .ne v678_r0 c0_i32_752_r0
  v679_r0

def k0_dev107 : Nat :=
  let c0_i32_800_r0 : BitVec 32 := 0#32
  let c10_i32_798_r0 : BitVec 32 := 10#32
  let c1_i32_799_r0 : BitVec 32 := 1#32
  let v743_r0 : BitVec 32 := Scalar.muli c10_i32_798_r0 c1_i32_799_r0
  let v744_r0 : BitVec 32 := Scalar.addi c0_i32_800_r0 v743_r0
  v744_r0.toNat
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_753_r0 : BitVec 32 := 11#32
  let v680_r0 : BitVec 1 := Scalar.cmpi .ne v2 c11_i32_753_r0
  let v681_r0 : BitVec 32 := Scalar.extui v680_r0
  let c0_i32_754_r0 : BitVec 32 := 0#32
  let v682_r0 : BitVec 1 := Scalar.cmpi .ne v681_r0 c0_i32_754_r0
  v682_r0

def k0_dev108 : Nat :=
  let c0_i32_800_r0 : BitVec 32 := 0#32
  let c11_i32_798_r0 : BitVec 32 := 11#32
  let c1_i32_799_r0 : BitVec 32 := 1#32
  let v743_r0 : BitVec 32 := Scalar.muli c11_i32_798_r0 c1_i32_799_r0
  let v744_r0 : BitVec 32 := Scalar.addi c0_i32_800_r0 v743_r0
  v744_r0.toNat
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_755_r0 : BitVec 32 := 12#32
  let v683_r0 : BitVec 1 := Scalar.cmpi .ne v2 c12_i32_755_r0
  let v684_r0 : BitVec 32 := Scalar.extui v683_r0
  let c0_i32_756_r0 : BitVec 32 := 0#32
  let v685_r0 : BitVec 1 := Scalar.cmpi .ne v684_r0 c0_i32_756_r0
  v685_r0

def k0_dev109 : Nat :=
  let c0_i32_800_r0 : BitVec 32 := 0#32
  let c12_i32_798_r0 : BitVec 32 := 12#32
  let c1_i32_799_r0 : BitVec 32 := 1#32
  let v743_r0 : BitVec 32 := Scalar.muli c12_i32_798_r0 c1_i32_799_r0
  let v744_r0 : BitVec 32 := Scalar.addi c0_i32_800_r0 v743_r0
  v744_r0.toNat
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_757_r0 : BitVec 32 := 13#32
  let v686_r0 : BitVec 1 := Scalar.cmpi .ne v2 c13_i32_757_r0
  let v687_r0 : BitVec 32 := Scalar.extui v686_r0
  let c0_i32_758_r0 : BitVec 32 := 0#32
  let v688_r0 : BitVec 1 := Scalar.cmpi .ne v687_r0 c0_i32_758_r0
  v688_r0

def k0_dev110 : Nat :=
  let c0_i32_800_r0 : BitVec 32 := 0#32
  let c13_i32_798_r0 : BitVec 32 := 13#32
  let c1_i32_799_r0 : BitVec 32 := 1#32
  let v743_r0 : BitVec 32 := Scalar.muli c13_i32_798_r0 c1_i32_799_r0
  let v744_r0 : BitVec 32 := Scalar.addi c0_i32_800_r0 v743_r0
  v744_r0.toNat
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_759_r0 : BitVec 32 := 14#32
  let v689_r0 : BitVec 1 := Scalar.cmpi .ne v2 c14_i32_759_r0
  let v690_r0 : BitVec 32 := Scalar.extui v689_r0
  let c0_i32_760_r0 : BitVec 32 := 0#32
  let v691_r0 : BitVec 1 := Scalar.cmpi .ne v690_r0 c0_i32_760_r0
  v691_r0

def k0_dev111 : Nat :=
  let c0_i32_800_r0 : BitVec 32 := 0#32
  let c14_i32_798_r0 : BitVec 32 := 14#32
  let c1_i32_799_r0 : BitVec 32 := 1#32
  let v743_r0 : BitVec 32 := Scalar.muli c14_i32_798_r0 c1_i32_799_r0
  let v744_r0 : BitVec 32 := Scalar.addi c0_i32_800_r0 v743_r0
  v744_r0.toNat
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_761_r0 : BitVec 32 := 15#32
  let v692_r0 : BitVec 1 := Scalar.cmpi .ne v2 c15_i32_761_r0
  let v693_r0 : BitVec 32 := Scalar.extui v692_r0
  let c0_i32_762_r0 : BitVec 32 := 0#32
  let v694_r0 : BitVec 1 := Scalar.cmpi .ne v693_r0 c0_i32_762_r0
  v694_r0

def k0_dev112 : Nat :=
  let c0_i32_800_r0 : BitVec 32 := 0#32
  let c15_i32_798_r0 : BitVec 32 := 15#32
  let c1_i32_799_r0 : BitVec 32 := 1#32
  let v743_r0 : BitVec 32 := Scalar.muli c15_i32_798_r0 c1_i32_799_r0
  let v744_r0 : BitVec 32 := Scalar.addi c0_i32_800_r0 v743_r0
  v744_r0.toNat
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_763_r0 : BitVec 32 := 16#32
  let v695_r0 : BitVec 1 := Scalar.cmpi .ne v2 c16_i32_763_r0
  let v696_r0 : BitVec 32 := Scalar.extui v695_r0
  let c0_i32_764_r0 : BitVec 32 := 0#32
  let v697_r0 : BitVec 1 := Scalar.cmpi .ne v696_r0 c0_i32_764_r0
  v697_r0

def k0_dev113 : Nat :=
  let c0_i32_800_r0 : BitVec 32 := 0#32
  let c16_i32_798_r0 : BitVec 32 := 16#32
  let c1_i32_799_r0 : BitVec 32 := 1#32
  let v743_r0 : BitVec 32 := Scalar.muli c16_i32_798_r0 c1_i32_799_r0
  let v744_r0 : BitVec 32 := Scalar.addi c0_i32_800_r0 v743_r0
  v744_r0.toNat
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_765_r0 : BitVec 32 := 17#32
  let v698_r0 : BitVec 1 := Scalar.cmpi .ne v2 c17_i32_765_r0
  let v699_r0 : BitVec 32 := Scalar.extui v698_r0
  let c0_i32_766_r0 : BitVec 32 := 0#32
  let v700_r0 : BitVec 1 := Scalar.cmpi .ne v699_r0 c0_i32_766_r0
  v700_r0

def k0_dev114 : Nat :=
  let c0_i32_800_r0 : BitVec 32 := 0#32
  let c17_i32_798_r0 : BitVec 32 := 17#32
  let c1_i32_799_r0 : BitVec 32 := 1#32
  let v743_r0 : BitVec 32 := Scalar.muli c17_i32_798_r0 c1_i32_799_r0
  let v744_r0 : BitVec 32 := Scalar.addi c0_i32_800_r0 v743_r0
  v744_r0.toNat
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_767_r0 : BitVec 32 := 18#32
  let v701_r0 : BitVec 1 := Scalar.cmpi .ne v2 c18_i32_767_r0
  let v702_r0 : BitVec 32 := Scalar.extui v701_r0
  let c0_i32_768_r0 : BitVec 32 := 0#32
  let v703_r0 : BitVec 1 := Scalar.cmpi .ne v702_r0 c0_i32_768_r0
  v703_r0

def k0_dev115 : Nat :=
  let c0_i32_800_r0 : BitVec 32 := 0#32
  let c18_i32_798_r0 : BitVec 32 := 18#32
  let c1_i32_799_r0 : BitVec 32 := 1#32
  let v743_r0 : BitVec 32 := Scalar.muli c18_i32_798_r0 c1_i32_799_r0
  let v744_r0 : BitVec 32 := Scalar.addi c0_i32_800_r0 v743_r0
  v744_r0.toNat
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_769_r0 : BitVec 32 := 19#32
  let v704_r0 : BitVec 1 := Scalar.cmpi .ne v2 c19_i32_769_r0
  let v705_r0 : BitVec 32 := Scalar.extui v704_r0
  let c0_i32_770_r0 : BitVec 32 := 0#32
  let v706_r0 : BitVec 1 := Scalar.cmpi .ne v705_r0 c0_i32_770_r0
  v706_r0

def k0_dev116 : Nat :=
  let c0_i32_800_r0 : BitVec 32 := 0#32
  let c19_i32_798_r0 : BitVec 32 := 19#32
  let c1_i32_799_r0 : BitVec 32 := 1#32
  let v743_r0 : BitVec 32 := Scalar.muli c19_i32_798_r0 c1_i32_799_r0
  let v744_r0 : BitVec 32 := Scalar.addi c0_i32_800_r0 v743_r0
  v744_r0.toNat
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_771_r0 : BitVec 32 := 20#32
  let v707_r0 : BitVec 1 := Scalar.cmpi .ne v2 c20_i32_771_r0
  let v708_r0 : BitVec 32 := Scalar.extui v707_r0
  let c0_i32_772_r0 : BitVec 32 := 0#32
  let v709_r0 : BitVec 1 := Scalar.cmpi .ne v708_r0 c0_i32_772_r0
  v709_r0

def k0_dev117 : Nat :=
  let c0_i32_800_r0 : BitVec 32 := 0#32
  let c20_i32_798_r0 : BitVec 32 := 20#32
  let c1_i32_799_r0 : BitVec 32 := 1#32
  let v743_r0 : BitVec 32 := Scalar.muli c20_i32_798_r0 c1_i32_799_r0
  let v744_r0 : BitVec 32 := Scalar.addi c0_i32_800_r0 v743_r0
  v744_r0.toNat
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_773_r0 : BitVec 32 := 21#32
  let v710_r0 : BitVec 1 := Scalar.cmpi .ne v2 c21_i32_773_r0
  let v711_r0 : BitVec 32 := Scalar.extui v710_r0
  let c0_i32_774_r0 : BitVec 32 := 0#32
  let v712_r0 : BitVec 1 := Scalar.cmpi .ne v711_r0 c0_i32_774_r0
  v712_r0

def k0_dev118 : Nat :=
  let c0_i32_800_r0 : BitVec 32 := 0#32
  let c21_i32_798_r0 : BitVec 32 := 21#32
  let c1_i32_799_r0 : BitVec 32 := 1#32
  let v743_r0 : BitVec 32 := Scalar.muli c21_i32_798_r0 c1_i32_799_r0
  let v744_r0 : BitVec 32 := Scalar.addi c0_i32_800_r0 v743_r0
  v744_r0.toNat
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_775_r0 : BitVec 32 := 22#32
  let v713_r0 : BitVec 1 := Scalar.cmpi .ne v2 c22_i32_775_r0
  let v714_r0 : BitVec 32 := Scalar.extui v713_r0
  let c0_i32_776_r0 : BitVec 32 := 0#32
  let v715_r0 : BitVec 1 := Scalar.cmpi .ne v714_r0 c0_i32_776_r0
  v715_r0

def k0_dev119 : Nat :=
  let c0_i32_800_r0 : BitVec 32 := 0#32
  let c22_i32_798_r0 : BitVec 32 := 22#32
  let c1_i32_799_r0 : BitVec 32 := 1#32
  let v743_r0 : BitVec 32 := Scalar.muli c22_i32_798_r0 c1_i32_799_r0
  let v744_r0 : BitVec 32 := Scalar.addi c0_i32_800_r0 v743_r0
  v744_r0.toNat
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_777_r0 : BitVec 32 := 23#32
  let v716_r0 : BitVec 1 := Scalar.cmpi .ne v2 c23_i32_777_r0
  let v717_r0 : BitVec 32 := Scalar.extui v716_r0
  let c0_i32_778_r0 : BitVec 32 := 0#32
  let v718_r0 : BitVec 1 := Scalar.cmpi .ne v717_r0 c0_i32_778_r0
  v718_r0

def k0_dev120 : Nat :=
  let c0_i32_800_r0 : BitVec 32 := 0#32
  let c23_i32_798_r0 : BitVec 32 := 23#32
  let c1_i32_799_r0 : BitVec 32 := 1#32
  let v743_r0 : BitVec 32 := Scalar.muli c23_i32_798_r0 c1_i32_799_r0
  let v744_r0 : BitVec 32 := Scalar.addi c0_i32_800_r0 v743_r0
  v744_r0.toNat
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_779_r0 : BitVec 32 := 24#32
  let v719_r0 : BitVec 1 := Scalar.cmpi .ne v2 c24_i32_779_r0
  let v720_r0 : BitVec 32 := Scalar.extui v719_r0
  let c0_i32_780_r0 : BitVec 32 := 0#32
  let v721_r0 : BitVec 1 := Scalar.cmpi .ne v720_r0 c0_i32_780_r0
  v721_r0

def k0_dev121 : Nat :=
  let c0_i32_800_r0 : BitVec 32 := 0#32
  let c24_i32_798_r0 : BitVec 32 := 24#32
  let c1_i32_799_r0 : BitVec 32 := 1#32
  let v743_r0 : BitVec 32 := Scalar.muli c24_i32_798_r0 c1_i32_799_r0
  let v744_r0 : BitVec 32 := Scalar.addi c0_i32_800_r0 v743_r0
  v744_r0.toNat
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_781_r0 : BitVec 32 := 25#32
  let v722_r0 : BitVec 1 := Scalar.cmpi .ne v2 c25_i32_781_r0
  let v723_r0 : BitVec 32 := Scalar.extui v722_r0
  let c0_i32_782_r0 : BitVec 32 := 0#32
  let v724_r0 : BitVec 1 := Scalar.cmpi .ne v723_r0 c0_i32_782_r0
  v724_r0

def k0_dev122 : Nat :=
  let c0_i32_800_r0 : BitVec 32 := 0#32
  let c25_i32_798_r0 : BitVec 32 := 25#32
  let c1_i32_799_r0 : BitVec 32 := 1#32
  let v743_r0 : BitVec 32 := Scalar.muli c25_i32_798_r0 c1_i32_799_r0
  let v744_r0 : BitVec 32 := Scalar.addi c0_i32_800_r0 v743_r0
  v744_r0.toNat
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_783_r0 : BitVec 32 := 26#32
  let v725_r0 : BitVec 1 := Scalar.cmpi .ne v2 c26_i32_783_r0
  let v726_r0 : BitVec 32 := Scalar.extui v725_r0
  let c0_i32_784_r0 : BitVec 32 := 0#32
  let v727_r0 : BitVec 1 := Scalar.cmpi .ne v726_r0 c0_i32_784_r0
  v727_r0

def k0_dev123 : Nat :=
  let c0_i32_800_r0 : BitVec 32 := 0#32
  let c26_i32_798_r0 : BitVec 32 := 26#32
  let c1_i32_799_r0 : BitVec 32 := 1#32
  let v743_r0 : BitVec 32 := Scalar.muli c26_i32_798_r0 c1_i32_799_r0
  let v744_r0 : BitVec 32 := Scalar.addi c0_i32_800_r0 v743_r0
  v744_r0.toNat
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_785_r0 : BitVec 32 := 27#32
  let v728_r0 : BitVec 1 := Scalar.cmpi .ne v2 c27_i32_785_r0
  let v729_r0 : BitVec 32 := Scalar.extui v728_r0
  let c0_i32_786_r0 : BitVec 32 := 0#32
  let v730_r0 : BitVec 1 := Scalar.cmpi .ne v729_r0 c0_i32_786_r0
  v730_r0

def k0_dev124 : Nat :=
  let c0_i32_800_r0 : BitVec 32 := 0#32
  let c27_i32_798_r0 : BitVec 32 := 27#32
  let c1_i32_799_r0 : BitVec 32 := 1#32
  let v743_r0 : BitVec 32 := Scalar.muli c27_i32_798_r0 c1_i32_799_r0
  let v744_r0 : BitVec 32 := Scalar.addi c0_i32_800_r0 v743_r0
  v744_r0.toNat
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_787_r0 : BitVec 32 := 28#32
  let v731_r0 : BitVec 1 := Scalar.cmpi .ne v2 c28_i32_787_r0
  let v732_r0 : BitVec 32 := Scalar.extui v731_r0
  let c0_i32_788_r0 : BitVec 32 := 0#32
  let v733_r0 : BitVec 1 := Scalar.cmpi .ne v732_r0 c0_i32_788_r0
  v733_r0

def k0_dev125 : Nat :=
  let c0_i32_800_r0 : BitVec 32 := 0#32
  let c28_i32_798_r0 : BitVec 32 := 28#32
  let c1_i32_799_r0 : BitVec 32 := 1#32
  let v743_r0 : BitVec 32 := Scalar.muli c28_i32_798_r0 c1_i32_799_r0
  let v744_r0 : BitVec 32 := Scalar.addi c0_i32_800_r0 v743_r0
  v744_r0.toNat
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_789_r0 : BitVec 32 := 29#32
  let v734_r0 : BitVec 1 := Scalar.cmpi .ne v2 c29_i32_789_r0
  let v735_r0 : BitVec 32 := Scalar.extui v734_r0
  let c0_i32_790_r0 : BitVec 32 := 0#32
  let v736_r0 : BitVec 1 := Scalar.cmpi .ne v735_r0 c0_i32_790_r0
  v736_r0

def k0_dev126 : Nat :=
  let c0_i32_800_r0 : BitVec 32 := 0#32
  let c29_i32_798_r0 : BitVec 32 := 29#32
  let c1_i32_799_r0 : BitVec 32 := 1#32
  let v743_r0 : BitVec 32 := Scalar.muli c29_i32_798_r0 c1_i32_799_r0
  let v744_r0 : BitVec 32 := Scalar.addi c0_i32_800_r0 v743_r0
  v744_r0.toNat
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_791_r0 : BitVec 32 := 30#32
  let v737_r0 : BitVec 1 := Scalar.cmpi .ne v2 c30_i32_791_r0
  let v738_r0 : BitVec 32 := Scalar.extui v737_r0
  let c0_i32_792_r0 : BitVec 32 := 0#32
  let v739_r0 : BitVec 1 := Scalar.cmpi .ne v738_r0 c0_i32_792_r0
  v739_r0

def k0_dev127 : Nat :=
  let c0_i32_800_r0 : BitVec 32 := 0#32
  let c30_i32_798_r0 : BitVec 32 := 30#32
  let c1_i32_799_r0 : BitVec 32 := 1#32
  let v743_r0 : BitVec 32 := Scalar.muli c30_i32_798_r0 c1_i32_799_r0
  let v744_r0 : BitVec 32 := Scalar.addi c0_i32_800_r0 v743_r0
  v744_r0.toNat
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_793_r0 : BitVec 32 := 31#32
  let v740_r0 : BitVec 1 := Scalar.cmpi .ne v2 c31_i32_793_r0
  let v741_r0 : BitVec 32 := Scalar.extui v740_r0
  let c0_i32_794_r0 : BitVec 32 := 0#32
  let v742_r0 : BitVec 1 := Scalar.cmpi .ne v741_r0 c0_i32_794_r0
  v742_r0

def k0_dev128 : Nat :=
  let c0_i32_800_r0 : BitVec 32 := 0#32
  let c31_i32_798_r0 : BitVec 32 := 31#32
  let c1_i32_799_r0 : BitVec 32 := 1#32
  let v743_r0 : BitVec 32 := Scalar.muli c31_i32_798_r0 c1_i32_799_r0
  let v744_r0 : BitVec 32 := Scalar.addi c0_i32_800_r0 v743_r0
  v744_r0.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x16384, .bf16⟩
  | .hbm, ⟨2, _⟩ => ⟨S256x16384, .bf16⟩
  | .hbm, ⟨3, _⟩ => ⟨S16384x256, .bf16⟩
  | .hbm, ⟨4, _⟩ => ⟨S256x256, .f32⟩
  | .hbm, ⟨5, _⟩ => ⟨S256x16384, .f32⟩
  | .hbm, ⟨6, _⟩ => ⟨S256x16384, .f32⟩
  | .hbm, ⟨7, _⟩ => ⟨S16384x256, .f32⟩
  | .hbm, ⟨8, _⟩ => ⟨S256x16384, .f32⟩
  | .hbm, ⟨9, _⟩ => ⟨S256x16384, .f32⟩
  | .hbm, ⟨10, _⟩ => ⟨S256x16384, .f32⟩
  | .hbm, ⟨11, _⟩ => ⟨S256x16384, .f32⟩
  | .hbm, ⟨12, _⟩ => ⟨S_, .f32⟩
  | .hbm, ⟨13, _⟩ => ⟨S256x16384, .f32⟩
  | .hbm, ⟨14, _⟩ => ⟨S256x16384, .f32⟩
  | .hbm, ⟨15, _⟩ => ⟨S256x16384, .f32⟩
  | .hbm, ⟨16, _⟩ => ⟨S256x16384, .f32⟩
  | .hbm, ⟨17, _⟩ => ⟨S256x256, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Loop.lean ====
/-
# The kernel's body as seven loops over the devices

The kernel's Python loops over the 32 devices are unrolled in the printed program: each pass is an `if` on "the
loop's device is not my own" around one operation. This module writes the same program as loops (`prog`), a loop pass
being a function of the device it is about, and proves the printed body equal to it (`body_eq`).
-/
module

public import proofs.«01_k».proof.Proof.Gen.KernelIdeal.Skeleton

@[expose] public section

noncomputable section

namespace Cert.Run

open Cert.KernelIdeal Cert.KernelIdeal.Gen
open Idealize.ShloMosaic Idealize.SL.Sem

variable {F : FTy → Type} [FloatOps F]

/-- The programs of the kernel's thread. -/
abbrev P (F : FTy → Type) [FloatOps F] (α : Type) := Prog (TpuEff nD τ sig (Elt F) Λ₀ .tc) α

/-- One pass: the operation `p` under the condition bit `b`, then the rest. -/
def step {α : Type} (b : BitVec 1) (p : P F PUnit) (k : P F α) : P F α :=
  if _h : b = 1#1 then p >>= fun _ => k else k

/-- The passes `a`, …, `a + n - 1`, then the rest. -/
def loop {α : Type} (b : ℕ → BitVec 1) (p : (j : ℕ) → j < 32 → P F PUnit) : (a n : ℕ) → a + n ≤ 32 → P F α → P F α
  | _, 0, _, k => k
  | a, n + 1, h, k => step (b a) (p a (by omega)) (loop b p (a + 1) n (by omega) k)

/-- A continuation moves past one pass. -/
theorem step_bind {α β : Type} (b : BitVec 1) (p : P F PUnit) (k : P F α) (f : α → P F β) :
    step b p k >>= f = step b p (k >>= f) := by
  unfold step; split
  · exact Prog.bind_assoc _ _ _
  · rfl

/-- A continuation moves past a loop. -/
theorem loop_bind {α β : Type} (b : ℕ → BitVec 1) (p : (j : ℕ) → j < 32 → P F PUnit) (f : α → P F β) :
    ∀ (a n : ℕ) (h : a + n ≤ 32) (k : P F α), loop b p a n h k >>= f = loop b p a n h (k >>= f)
  | _, 0, _, _ => rfl
  | a, n + 1, h, k => (step_bind _ _ _ _).trans (congrArg (step _ _) (loop_bind b p f (a + 1) n (by omega) k))

/-- A loop's passes in two stretches. -/
theorem loop_loop {α : Type} (b : ℕ → BitVec 1) (p : (j : ℕ) → j < 32 → P F PUnit) (k : P F α) :
    ∀ (a n n' : ℕ) (h : a + n ≤ 32) (h' : a + n + n' ≤ 32) (h'' : a + (n + n') ≤ 32),
      loop b p a n h (loop b p (a + n) n' h' k) = loop b p a (n + n') h'' k
  | a, 0, n', h, h', h'' => by simp only [Nat.add_zero, Nat.zero_add]; rfl
  | a, n + 1, n', h, h', h'' => by
    have e : a + (n + 1) = a + 1 + n := by omega
    have e' : n + 1 + n' = n + n' + 1 := by omega
    simp only [e, e']
    exact congrArg (step _ _) (loop_loop b p k (a + 1) n n' (by omega) (by omega) (by omega))

/-! ## The kernel's words, memrefs and semaphores -/

/-- The kernel's own position as it computes it from its device index. -/
abbrev me (c : Dev nD) : BitVec 32 := Scalar.remsi (Scalar.divsi (Dev.word c) 1#32) 32#32
/-- The kernel's test that the loop's device is not its own. -/
abbrev bit (v : BitVec 32) (j : ℕ) : BitVec 1 :=
  Scalar.cmpi .ne (Scalar.extui (Scalar.cmpi .ne v (BitVec.ofNat 32 j)) : BitVec 32) 0#32

/-- The staged input. -/
abbrev xM : Memref sig .tc .vmem S256x256 .bf16 := Memref.whole cc0_stg0_0
/-- The staged gate weights. -/
abbrev wgM : Memref sig .tc .vmem S256x512 .bf16 := Memref.whole cc0_stg1_0
/-- The staged up weights. -/
abbrev wuM : Memref sig .tc .vmem S256x512 .bf16 := Memref.whole cc0_stg2_0
/-- The staged down weights. -/
abbrev wdM : Memref sig .tc .vmem S512x256 .bf16 := Memref.whole cc0_stg3_0
/-- The staged result. -/
abbrev outM : Memref sig .tc .vmem S256x256 .f32 := Memref.whole cc0_stg4_0
/-- The partial product. -/
abbrev accM : Memref sig .tc .vmem S256x256 .f32 := Memref.whole cc0_scratch0
/-- The receive buffer, one slot per device. -/
abbrev commM : Memref sig .tc .vmem S32x8x256 .f32 := Memref.whole cc0_scratch1
/-- The reduced rows. -/
abbrev redM : Memref sig .tc .vmem S8x256 .f32 := Memref.whole cc0_scratch2

/-- Entry `j` is inside an array of 32 semaphores. -/
theorem inb_sem {o : Fin 1 → ℕ} {j : ℕ} (e : o = ![j]) (h : j < 32) : ∀ a, o a + S1.size a ≤ S32.size a := by
  subst e; intro a; fin_cases a; show j + 1 ≤ 32; omega
/-- Slot `j` is inside the receive buffer. -/
theorem inb_slot {o : Fin 3 → ℕ} {j : ℕ} (e : o = ![j, 0, 0]) (h : j < 32) : ∀ a, o a + S1x8x256.size a ≤ S32x8x256.size a := by
  subst e; intro a; fin_cases a
  · show j + 1 ≤ 32; omega
  · show 0 + 8 ≤ 8; omega
  · show 0 + 256 ≤ 256; omega
/-- Rows block `j` is inside the array. -/
theorem inb_rows {o : Fin 2 → ℕ} {j : ℕ} (e : o = ![8 * j, 0]) (h : j < 32) : ∀ a, o a + S8x256.size a ≤ S256x256.size a := by
  subst e; intro a; fin_cases a
  · show 8 * j + 8 ≤ 256; omega
  · show 0 + 256 ≤ 256; omega

/-- Semaphore number `o` of an array of 32. -/
abbrev semAt (A : DmaSems sig S32) (o : Fin 1 → ℕ) (h : ∀ a, o a + S1.size a ≤ S32.size a) : DmaSem sig :=
  ((A.slice (Rect.unit (s := S32) o S1.size h)).squeeze S_ squeezes_S1_S_).sem
/-- The 8 × 256 slot at offset `o` of the 32 slots. -/
abbrev slotAt (o : Fin 3 → ℕ) (h : ∀ a, o a + S1x8x256.size a ≤ S32x8x256.size a) : Memref sig .tc .vmem S8x256 .f32 :=
  (commM.slice (Rect.unit (s := S32x8x256) o S1x8x256.size h) (fun _ => rfl)).squeeze S8x256 squeezes_S1x8x256_S8x256
/-- The 8 rows at offset `o` of a 256 × 256 array. -/
abbrev rowsAt (M : Memref sig .tc .vmem S256x256 .f32) (o : Fin 2 → ℕ) (h : ∀ a, o a + S8x256.size a ≤ S256x256.size a) :
    Memref sig .tc .vmem S8x256 .f32 :=
  M.slice (Rect.unit (s := S256x256) o S8x256.size h) (fun _ => rfl)

/-- The barrier semaphore. -/
abbrev barS : Sem sig := (SemArray.scalar (sig.barrier 0 rfl) : Sems sig S_).sem
/-- The exit semaphore. -/
abbrev exitS : Sem sig := cc0_scoped0.sem

/-! ## The operations of the loops -/

section Ops
variable (c : Dev nD)

/-- Signal device `j`'s semaphore `s` once. -/
def sigOp (s : Sem sig) (j : ℕ) (h : j < 32) : P F PUnit := semSignalWord (⟨j, h⟩ : Dev nD) s 1#32
/-- Send rows block `j` of the partial product to device `j`, into the slot of the sender. -/
def send1Op (j : ℕ) (h : j < 32) : P F PUnit :=
  Prog.lift (.enqueueDma (rowsAt accM ![8 * j, 0] (inb_rows rfl h))
    (.remote (Dev.tc (⟨j, h⟩ : Dev nD)) (slotAt (k0_off2 c) (inb_slot (k0_off2_eq c) c.isLt)) (.dma (semAt cc0_scratch3 ![j] (inb_sem rfl h))))
    (.dma (semAt cc0_scratch4 (k0_off1 c) (inb_sem (k0_off1_eq c) c.isLt))) (View.wordExact_bits rfl)
    ((View.wordExact_bits rfl).reshape _ _) ⟨⟨rfl, Or.inl rfl⟩, trivial⟩)
/-- Wait for what device `j` sends into its slot. -/
def wait1Op (j : ℕ) (h : j < 32) : P F PUnit :=
  Prog.lift (.waitDma2 (semAt cc0_scratch4 ![j] (inb_sem rfl h)) (slotAt ![j, 0, 0] (inb_slot rfl h)) (slotAt ![j, 0, 0] (inb_slot rfl h))
    ((View.wordExact_bits rfl).reshape _ _) ((View.wordExact_bits rfl).reshape _ _))
/-- Send the reduced rows to device `j`, into the sender's rows of its result. -/
def send2Op (j : ℕ) (h : j < 32) : P F PUnit :=
  Prog.lift (.enqueueDma redM
    (.remote (Dev.tc (⟨j, h⟩ : Dev nD)) (rowsAt outM (k0_off68 c) (inb_rows (k0_off68_eq c) c.isLt)) (.dma (semAt cc0_scratch5 ![j] (inb_sem rfl h))))
    (.dma (semAt cc0_scratch6 (k0_off67 c) (inb_sem (k0_off67_eq c) c.isLt))) (Memref.isWhole_whole _).wordExact
    (View.wordExact_bits rfl) ⟨⟨rfl, Or.inl rfl⟩, trivial⟩)
/-- Wait for the rows device `j` sends into the result. -/
def wait2Op (j : ℕ) (h : j < 32) : P F PUnit :=
  Prog.lift (.waitDma2 (semAt cc0_scratch6 ![j] (inb_sem rfl h)) redM (rowsAt outM ![8 * j, 0] (inb_rows rfl h))
    (Memref.isWhole_whole _).wordExact (View.wordExact_bits rfl))
/-- Wait for the two transfers to device `j` to have left. -/
def leftOp (j : ℕ) (h : j < 32) : P F PUnit := do
  Prog.lift (.waitDma2 (semAt cc0_scratch3 ![j] (inb_sem rfl h)) (slotAt (k0_off2 c) (inb_slot (k0_off2_eq c) c.isLt))
    (rowsAt accM ![8 * j, 0] (inb_rows rfl h)) ((View.wordExact_bits rfl).reshape _ _) (View.wordExact_bits rfl))
  Prog.lift (.waitDma2 (semAt cc0_scratch5 ![j] (inb_sem rfl h)) (rowsAt outM (k0_off68 c) (inb_rows (k0_off68_eq c) c.isLt)) redM
    (View.wordExact_bits rfl) (Memref.isWhole_whole _).wordExact)

/-- The partial product: loads, the four matrix steps, one store, and the entry wait. -/
def computeOp {α : Type} (s : Sem sig) (k : P F α) : P F α := do
  let v100 : Vec F S256x256 .bf16 ← Prog.lift (.load xM (Rect.unit (s := S256x256) ![0, 0] S256x256.size inb_S256x256_S256x256_0_0).toLoadRect (View.loadsAt_vmem h_S256x256))
  let v102 : Vec F S256x512 .bf16 ← Prog.lift (.load wgM (Rect.unit (s := S256x512) ![0, 0] S256x512.size inb_S256x512_S256x512_0_0).toLoadRect (View.loadsAt_vmem h_S256x512))
  let v105 : Vec F S256x512 .bf16 ← Prog.lift (.load wuM (Rect.unit (s := S256x512) ![0, 0] S256x512.size inb_S256x512_S256x512_0_0).toLoadRect (View.loadsAt_vmem h_S256x512))
  let v112 : Vec F S512x256 .bf16 ← Prog.lift (.load wdM (Rect.unit (s := S512x256) ![0, 0] S512x256.size inb_S512x256_S512x256_0_0).toLoadRect (View.loadsAt_vmem h_S512x256))
  let v115 : Vec F S256x256 .f32 ← Prog.lift (.load accM (Rect.unit (s := S256x256) ![0, 0] S256x256.size inb_S256x256_S256x256_0_0).toLoadRect (View.loadsAt_vmem h_S256x256))
  Prog.lift (.store accM (Rect.unit (s := S256x256) ![0, 0] S256x256.size inb_S256x256_S256x256_0_0) (k0_pay1 v100 v102 v105 v112) Finset.univ (View.stores_vmem_bits_univ h_S256x256 rfl) (.inl rfl))
  semWaitWord s 31#32
  k

/-- The own slot: the own rows of the partial product copied into it. -/
def ownSlotOp {α : Type} (k : P F α) : P F α := do
  let v216 : Vec F S8x256 .f32 ← Prog.lift (.load accM (Rect.unit (s := S256x256) (k0_off65 c) S8x256.size (k0_off65_inb c)).toLoadRect (View.loadsAt_vmem h_S8x256))
  let v218 : Vec F S1x8x256 .f32 ← Prog.lift (.load commM (Rect.unit (s := S32x8x256) (k0_off66 c) S1x8x256.size (k0_off66_inb c)).toLoadRect (View.loadsAt_vmem h_S1x8x256))
  Prog.lift (.store commM (Rect.unit (s := S32x8x256) (k0_off66 c) S1x8x256.size (k0_off66_inb c)) (k0_pay2 v216) Finset.univ (View.stores_vmem_bits_univ h_S1x8x256 rfl) (.inl rfl))
  k

/-- The reduction over the slots, stored and copied into the own rows of the result. -/
def reduceOp {α : Type} (k : P F α) : P F α := do
  let v317 : Vec F S32x8x256 .f32 ← Prog.lift (.load commM (Rect.unit (s := S32x8x256) ![0, 0, 0] S32x8x256.size inb_S32x8x256_S32x8x256_0_0_0).toLoadRect (View.loadsAt_vmem h_S32x8x256))
  let v319 : Vec F S8x256 .f32 ← Prog.lift (.load redM (Rect.unit (s := S8x256) ![0, 0] S8x256.size inb_S8x256_S8x256_0_0).toLoadRect (View.loadsAt_vmem h_S8x256))
  Prog.lift (.store redM (Rect.unit (s := S8x256) ![0, 0] S8x256.size inb_S8x256_S8x256_0_0) (k0_pay3 v317) Finset.univ (View.stores_vmem_bits_univ h_S8x256 rfl) (.inl rfl))
  let v322 : Vec F S8x256 .f32 ← Prog.lift (.load redM (Rect.unit (s := S8x256) ![0, 0] S8x256.size inb_S8x256_S8x256_0_0).toLoadRect (View.loadsAt_vmem h_S8x256))
  let v325 : Vec F S8x256 .f32 ← Prog.lift (.load outM (Rect.unit (s := S256x256) (k0_off65 c) S8x256.size (k0_off65_inb c)).toLoadRect (View.loadsAt_vmem h_S8x256))
  Prog.lift (.store outM (Rect.unit (s := S256x256) (k0_off65 c) S8x256.size (k0_off65_inb c)) v322 Finset.univ (View.stores_vmem_bits_univ h_S8x256 rfl) (.inl rfl))
  k

end Ops

/-- The kernel's body at device `c`. -/
def progAt (c : Dev nD) : P F PUnit :=
  loop (bit (me c)) (sigOp barS) 0 32 (by decide) <| computeOp barS <|
  loop (bit (me c)) (send1Op c) 0 32 (by decide) <| ownSlotOp c <|
  loop (bit (me c)) wait1Op 0 32 (by decide) <| reduceOp c <|
  loop (bit (me c)) (send2Op c) 0 32 (by decide) <|
  loop (bit (me c)) wait2Op 0 32 (by decide) <|
  loop (bit (me c)) (leftOp c) 0 32 (by decide) <|
  loop (bit (me c)) (sigOp exitS) 0 32 (by decide) <| semWaitWord exitS 31#32

/-- The kernel's body, as the launch calls it. -/
abbrev theBody : P F PUnit :=
  cc0_body xM (Memref.isWhole_whole _) wgM (Memref.isWhole_whole _) wuM (Memref.isWhole_whole _) wdM (Memref.isWhole_whole _)
    outM (Memref.isWhole_whole _) accM (Memref.isWhole_whole _) commM (Memref.isWhole_whole _) redM (Memref.isWhole_whole _)
    cc0_scratch3 cc0_scratch4 cc0_scratch5 cc0_scratch6 cc0_scoped0

/-- The printed body, part by part: each part a stretch of the loops. -/
def parts : P F PUnit := do
  let ⟨d0, v2, v3⟩ : Σ' (d0 : Dev nD) (v2 : BitVec 32), Sems sig S_ ← (do
    let d0 ← Prog.lift .deviceId
    loop (bit (me d0)) (sigOp barS) 0 8 (by decide) (pure ⟨d0, me d0, SemArray.scalar (sig.barrier 0 rfl)⟩))
  let _ ← loop (bit (me d0)) (sigOp v3.sem) 8 10 (by decide) <|
    pure PUnit.unit
  let _ ← loop (bit (me d0)) (sigOp v3.sem) 18 10 (by decide) <|
    pure PUnit.unit
  let _ ← loop (bit (me d0)) (sigOp v3.sem) 28 4 (by decide) <|
    computeOp v3.sem <|
    pure PUnit.unit
  let _ ← loop (bit (me d0)) (send1Op d0) 0 9 (by decide) <|
    pure (Scalar.extui (Scalar.cmpi .ne v2 9#32) : BitVec 32)
  let _ ← loop (bit (me d0)) (send1Op d0) 9 9 (by decide) <|
    pure PUnit.unit
  let _ ← loop (bit (me d0)) (send1Op d0) 18 8 (by decide) <|
    pure (Scalar.extui (Scalar.cmpi .ne v2 26#32) : BitVec 32)
  let _ ← loop (bit (me d0)) (send1Op d0) 26 6 (by decide) <|
    ownSlotOp d0 <|
    loop (bit v2) wait1Op 0 1 (by decide) <|
    pure PUnit.unit
  let _ ← loop (bit v2) wait1Op 1 6 (by decide) <|
    pure PUnit.unit
  let _ ← loop (bit v2) wait1Op 7 6 (by decide) <|
    pure PUnit.unit
  let _ ← loop (bit v2) wait1Op 13 6 (by decide) <|
    pure PUnit.unit
  let _ ← loop (bit v2) wait1Op 19 6 (by decide) <|
    pure PUnit.unit
  let _ ← loop (bit v2) wait1Op 25 6 (by decide) <|
    pure PUnit.unit
  let _ ← loop (bit v2) wait1Op 31 1 (by decide) <|
    reduceOp d0 <|
    loop (bit (me d0)) (send2Op d0) 0 3 (by decide) <|
    pure PUnit.unit
  let _ ← loop (bit (me d0)) (send2Op d0) 3 6 (by decide) <|
    pure PUnit.unit
  let _ ← loop (bit (me d0)) (send2Op d0) 9 7 (by decide) <|
    pure (Scalar.extui (Scalar.cmpi .ne v2 16#32) : BitVec 32)
  let _ ← loop (bit (me d0)) (send2Op d0) 16 7 (by decide) <|
    pure PUnit.unit
  let _ ← loop (bit (me d0)) (send2Op d0) 23 6 (by decide) <|
    pure PUnit.unit
  let c5 ← loop (bit (me d0)) (send2Op d0) 29 3 (by decide) <|
    loop (bit v2) wait2Op 0 5 (by decide) <|
    pure 5#32
  let v491 ← step (Scalar.cmpi .ne (Scalar.extui (Scalar.cmpi .ne v2 c5) : BitVec 32) 0#32) (wait2Op 5 (by decide)) <|
    loop (bit v2) wait2Op 6 6 (by decide) <|
    pure (Scalar.extui (Scalar.cmpi .ne v2 12#32) : BitVec 32)
  let c20 ← step (Scalar.cmpi .ne v491 0#32) (wait2Op 12 (by decide)) <|
    loop (bit v2) wait2Op 13 7 (by decide) <|
    pure 20#32
  let v536 ← step (Scalar.cmpi .ne (Scalar.extui (Scalar.cmpi .ne v2 c20) : BitVec 32) 0#32) (wait2Op 20 (by decide)) <|
    loop (bit v2) wait2Op 21 6 (by decide) <|
    pure (Scalar.extui (Scalar.cmpi .ne v2 27#32) : BitVec 32)
  let _ ← step (Scalar.cmpi .ne v536 0#32) (wait2Op 27 (by decide)) <|
    loop (bit v2) wait2Op 28 4 (by decide) <|
    loop (bit (me d0)) (leftOp d0) 0 3 (by decide) <|
    pure 3#32
  let _ ← loop (bit (me d0)) (leftOp d0) 3 7 (by decide) <|
    pure (Scalar.extui (Scalar.cmpi .ne v2 10#32) : BitVec 32)
  let _ ← loop (bit (me d0)) (leftOp d0) 10 8 (by decide) <|
    pure 18#32
  let _ ← loop (bit (me d0)) (leftOp d0) 18 7 (by decide) <|
    pure (Scalar.extui (Scalar.cmpi .ne v2 25#32) : BitVec 32)
  let _ ← loop (bit (me d0)) (leftOp d0) 25 7 (by decide) <|
    loop (bit (me d0)) (sigOp exitS) 0 1 (by decide) <|
    pure (Scalar.extui (Scalar.cmpi .ne v2 1#32) : BitVec 32)
  let _ ← loop (bit (me d0)) (sigOp exitS) 1 10 (by decide) <|
    pure (Scalar.extui (Scalar.cmpi .ne v2 11#32) : BitVec 32)
  let _ ← loop (bit (me d0)) (sigOp exitS) 11 10 (by decide) <|
    pure (Scalar.extui (Scalar.cmpi .ne v2 21#32) : BitVec 32)
  let _ ← loop (bit (me d0)) (sigOp exitS) 21 10 (by decide) <|
    pure (Scalar.extui (Scalar.cmpi .ne v2 31#32) : BitVec 32)
  loop (bit (me d0)) (sigOp exitS) 31 1 (by decide) <| (do semWaitWord exitS 31#32; pure ⟨⟩)

/-! What follows a stretch of the body is its continuation. -/

/-- A continuation moves past the products and the entry wait. -/
theorem computeOp_bind {α β : Type} (s : Sem sig) (k : P F α) (f : α → P F β) : computeOp s k >>= f = computeOp s (k >>= f) := rfl
/-- A continuation moves past the copy of the device's own rows. -/
theorem ownSlotOp_bind {α β : Type} (c : Dev nD) (k : P F α) (f : α → P F β) : ownSlotOp c k >>= f = ownSlotOp c (k >>= f) := rfl
/-- A continuation moves past the reduction. -/
theorem reduceOp_bind {α β : Type} (c : Dev nD) (k : P F α) (f : α → P F β) : reduceOp c k >>= f = reduceOp c (k >>= f) := rfl

set_option maxRecDepth 65536 in
/-- The printed body unfolds to its parts. -/
theorem body_parts : theBody (F := F) = parts := rfl

set_option maxRecDepth 65536 in
/-- The stretches join to the seven loops. -/
theorem parts_prog : parts (F := F) = (Prog.op .deviceId fun c => progAt c : P F PUnit) := by
  unfold parts
  simp only [loop_bind, step_bind, computeOp_bind, ownSlotOp_bind, reduceOp_bind, pure_bind, bind_assoc]
  rfl

/-- The printed body is the loops. -/
theorem body_eq : theBody (F := F) = (Prog.op .deviceId fun c => progAt c : P F PUnit) := body_parts.trans parts_prog
end Cert.Run

end
-- ==== Proof.Cells.lean ====
/-
# The kernel's semaphores, its buffers' blocks, and what the blocks hold

A device has 130 semaphores of its own in the protocol: the entry barrier, the exit semaphore, and four arrays of 32
DMA semaphores (first transfers left / arrived, second transfers left / arrived). They are indexed by `CI`.

The 256 rows of a partial product are 32 blocks of 8 rows; the receive buffer is 32 slots of 8 rows. The contents after
the two exchanges are functions of the devices' partial products `A`.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit
public import Idealize.ShloMosaic.Lib.ValueLayout
public import Idealize.ShloMosaic.Lib.Ring
public import Idealize.ShloMosaic.Lib.ShareLeaves
public import Idealize.ShloMosaic.Lib.Rounds.Family
public import Idealize.ShloMosaic.Lib.Tactic
public import Idealize.ShloMosaic.Lib.Pipeline.CollectiveSegs

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

/-- A device's protocol semaphores: `inl false` the entry barrier, `inl true` the exit semaphore, `inr (a, j)` number `j` of
    DMA array `a`. -/
abbrev CI : Type := Bool ⊕ Fin 4 × Fin 32

/-- Number `j` of DMA array `a` among all DMA semaphores. -/
def dmaIx (a : Fin 4) (j : Fin 32) : DmaSem sig := ⟨5 + 32 * a.val + j.val, by
  have := a.isLt; have := j.isLt; show _ < 133; omega⟩

/-- The semaphore of an index. -/
def csem : CI → SemLoc sig
  | .inl false => .reg barS
  | .inl true => .reg exitS
  | .inr (a, j) => .dma (dmaIx a j)

/-- The index of a semaphore, if it is one of the protocol's. -/
def decode : SemLoc sig → Option CI
  | .reg s => if s = barS then some (.inl false) else if s = exitS then some (.inl true) else none
  | .dma q => if h : 5 ≤ q.val then some (.inr (⟨(q.val - 5) / 32, by have : q.val < 133 := q.isLt; omega⟩, ⟨(q.val - 5) % 32, by omega⟩)) else none

/-- The exit semaphore is not the barrier. -/
theorem exit_ne_bar : exitS ≠ barS := by decide

/-- Decoding finds the index. -/
theorem decode_csem (ci : CI) : decode (csem ci) = some ci := by
  rcases ci with (_ | _) | ⟨a, j⟩
  · simp only [csem, decode, if_true]
  · simp only [csem, decode, if_true, if_neg exit_ne_bar]
  · have := a.isLt; have := j.isLt
    simp only [csem, decode, dmaIx]
    rw [dif_pos (by omega)]
    congr 3
    · exact Fin.ext (by show (5 + 32 * a.val + j.val - 5) / 32 = a.val; omega)
    · exact Fin.ext (by show (5 + 32 * a.val + j.val - 5) % 32 = j.val; omega)

/-- The indices name distinct semaphores. -/
theorem csem_injective : Function.Injective csem := fun a b h => by
  have := congrArg decode h; rw [decode_csem, decode_csem] at this; exact Option.some.inj this

/-! The semaphores the kernel takes from its four arrays, by number. -/

/-- Entry `j` of the first array of semaphores. -/
theorem sem3_lit (j : Fin 32) : semAt cc0_scratch3 ![j.val] (inb_sem rfl j.isLt) = dmaIx 0 j := by revert j; decide +kernel
/-- Entry `j` of the second array of semaphores. -/
theorem sem4_lit (j : Fin 32) : semAt cc0_scratch4 ![j.val] (inb_sem rfl j.isLt) = dmaIx 1 j := by revert j; decide +kernel
/-- Entry `j` of the third array of semaphores. -/
theorem sem5_lit (j : Fin 32) : semAt cc0_scratch5 ![j.val] (inb_sem rfl j.isLt) = dmaIx 2 j := by revert j; decide +kernel
/-- Entry `j` of the fourth array of semaphores. -/
theorem sem6_lit (j : Fin 32) : semAt cc0_scratch6 ![j.val] (inb_sem rfl j.isLt) = dmaIx 3 j := by revert j; decide +kernel
/-- The second array at the device's own number. -/
theorem sem4_own (c : Dev nD) : semAt cc0_scratch4 (k0_off1 c) (inb_sem (k0_off1_eq c) c.isLt) = dmaIx 1 c :=
  (by congr 3; simp only [k0_off1_eq] : _ = semAt cc0_scratch4 ![c.val] (inb_sem rfl c.isLt)).trans (sem4_lit c)
/-- The fourth array at the device's own number. -/
theorem sem6_own (c : Dev nD) : semAt cc0_scratch6 (k0_off67 c) (inb_sem (k0_off67_eq c) c.isLt) = dmaIx 3 c :=
  (by congr 3; simp only [k0_off67_eq] : _ = semAt cc0_scratch6 ![c.val] (inb_sem rfl c.isLt)).trans (sem6_lit c)

/-! ## The blocks -/

/-- The elements of slot `j` of the receive buffer. -/
def slotS (j : Fin 32) : Finset S32x8x256.Idx := Finset.univ.filter fun i => (i 0).val = j.val
/-- The elements of rows block `j` of a 256 × 256 buffer. -/
def rowsS (j : Fin 32) : Finset S256x256.Idx := Finset.univ.filter fun i => (i 0).val / 8 = j.val

/-- A slot's view covers its elements. -/
theorem slot_set {o : Fin 3 → ℕ} (j : Fin 32) (e : o = ![j.val, 0, 0]) (h) : (slotAt o h).view.set = slotS j := by
  subst e
  refine (View.set_reshape _ _).trans ((View.set_slice_whole _ _).trans (Finset.ext fun i => ?_))
  rw [Rect.mem_set_unit]
  have h1 : (i 1).val < 8 := (i 1).isLt
  have h2 : (i 2).val < 256 := (i 2).isLt
  constructor
  · intro H; have := H 0
    refine Finset.mem_filter.mpr ⟨Finset.mem_univ _, ?_⟩
    have a : j.val ≤ (i 0).val := this.1
    have b : (i 0).val < j.val + 1 := this.2
    omega
  · intro H a
    have := (Finset.mem_filter.mp H).2
    fin_cases a
    · exact ⟨show j.val ≤ (i 0).val by omega, show (i 0).val < j.val + 1 by omega⟩
    · exact ⟨Nat.zero_le _, show (i 1).val < 0 + 8 by omega⟩
    · exact ⟨Nat.zero_le _, show (i 2).val < 0 + 256 by omega⟩

/-- A rows block's rectangle covers its elements. -/
theorem rows_rect {o : Fin 2 → ℕ} (j : Fin 32) (e : o = ![8 * j.val, 0]) (h : ∀ a, o a + S8x256.size a ≤ S256x256.size a) :
    (Rect.unit (s := S256x256) o S8x256.size h).set = rowsS j := by
  subst e
  refine Finset.ext fun i => ?_
  rw [Rect.mem_set_unit]
  have h2 : (i 1).val < 256 := (i 1).isLt
  constructor
  · intro H; have := H 0
    refine Finset.mem_filter.mpr ⟨Finset.mem_univ _, ?_⟩
    have a : 8 * j.val ≤ (i 0).val := this.1
    have b : (i 0).val < 8 * j.val + 8 := this.2
    omega
  · intro H a
    have := (Finset.mem_filter.mp H).2
    fin_cases a
    · exact ⟨show 8 * j.val ≤ (i 0).val by omega, show (i 0).val < 8 * j.val + 8 by omega⟩
    · exact ⟨Nat.zero_le _, show (i 1).val < 0 + 256 by omega⟩

/-- The elements of rows block `j` of the partial product's buffer. -/
theorem acc_set {o : Fin 2 → ℕ} (j : Fin 32) (e : o = ![8 * j.val, 0]) (h) : (rowsAt accM o h).view.set = rowsS j :=
  (View.set_slice_whole _ _).trans (rows_rect j e h)
/-- The elements of rows block `j` of the result's buffer. -/
theorem out_set {o : Fin 2 → ℕ} (j : Fin 32) (e : o = ![8 * j.val, 0]) (h) : (rowsAt outM o h).view.set = rowsS j :=
  (View.set_slice_whole _ _).trans (rows_rect j e h)

/-- Element `(r, k)` of slot `j`. -/
theorem slot_emb {o : Fin 3 → ℕ} (j : Fin 32) (e : o = ![j.val, 0, 0]) (h) (x : S8x256.Idx) :
    (slotAt o h).view.emb x = (ValueIdx.ix3 (⟨j.val, j.isLt⟩ : Fin 32) (x 0) (x 1) : S32x8x256.Idx) := by
  subst e
  obtain ⟨r, k, rfl⟩ : ∃ r k, x = ValueIdx.ix2 r k := ⟨_, _, ValueIdx.eq_ix2 x⟩
  refine (congrArg (Rect.unit (s := S32x8x256) ![j.val, 0, 0] S1x8x256.size h).emb
    (ValueIdx.reshapeEquiv_ix2_1ab (a := 8) (b := 256) _ r k)).trans ?_
  funext a; refine Fin.ext ((ValueKit.rect_emb_unit_val _ _ _ _ a).trans ?_)
  fin_cases a
  · rfl
  · exact Nat.zero_add _
  · exact Nat.zero_add _

/-- Element `(r, k)` of rows block `j`. -/
theorem rows_emb {o : Fin 2 → ℕ} (j : Fin 32) (e : o = ![8 * j.val, 0]) (h : ∀ a, o a + S8x256.size a ≤ S256x256.size a) (x : S8x256.Idx) :
    (Rect.unit (s := S256x256) o S8x256.size h).emb x
      = (ValueIdx.ix2 (⟨8 * j.val + (x 0).val, by have := j.isLt; have : (x 0).val < 8 := (x 0).isLt; omega⟩ : Fin 256) (x 1) : S256x256.Idx) := by
  subst e
  funext a; refine Fin.ext ((ValueKit.rect_emb_unit_val _ _ _ _ a).trans ?_)
  fin_cases a
  · rfl
  · exact Nat.zero_add _

/-- Different slots share no element. -/
theorem slots_disjoint (b b' : Fin 32) (h : b ≠ b') : Disjoint (slotS b) (slotS b') :=
  Finset.disjoint_left.mpr fun i hi hi' => h (Fin.ext ((Finset.mem_filter.mp hi).2.symm.trans (Finset.mem_filter.mp hi').2))
/-- Different rows blocks share no element. -/
theorem rows_disjoint (b b' : Fin 32) (h : b ≠ b') : Disjoint (rowsS b) (rowsS b') :=
  Finset.disjoint_left.mpr fun i hi hi' => h (Fin.ext ((Finset.mem_filter.mp hi).2.symm.trans (Finset.mem_filter.mp hi').2))
/-- The slots make up the receive buffer. -/
theorem slots_cover : Finset.univ.biUnion slotS = Finset.univ :=
  Finset.eq_univ_iff_forall.mpr fun i => Finset.mem_biUnion.mpr ⟨i 0, Finset.mem_univ _, Finset.mem_filter.mpr ⟨Finset.mem_univ _, rfl⟩⟩
/-- The rows blocks make up the array. -/
theorem rows_cover : Finset.univ.biUnion rowsS = Finset.univ :=
  Finset.eq_univ_iff_forall.mpr fun i => Finset.mem_biUnion.mpr ⟨⟨(i 0).val / 8, by have : (i 0).val < 256 := (i 0).isLt; omega⟩,
    Finset.mem_univ _, Finset.mem_filter.mpr ⟨Finset.mem_univ _, rfl⟩⟩

/-! ## The contents -/

section Contents
variable (A : Dev nD → Vec F S256x256 .f32)

/-- The receive buffer of device `c` after the first exchange: slot `s` holds rows block `c` of device `s`'s partial product. -/
def commC (c : Dev nD) : Vec F S32x8x256 .f32 := fun i =>
  A (i 0) (ValueIdx.ix2 (⟨8 * c.val + (i 1).val, by have : c.val < 32 := c.isLt; have : (i 1).val < 8 := (i 1).isLt; omega⟩ : Fin 256) (i 2))
/-- The rows device `c` reduces. -/
def redC (c : Dev nD) : Vec F S8x256 .f32 := k0_pay3 (commC A c)
/-- The result: rows block `s` is what device `s` reduced. -/
def outC : Vec F S256x256 .f32 := fun i =>
  redC A ⟨(i 0).val / 8, by have : (i 0).val < 256 := (i 0).isLt; show _ < 32; omega⟩ (ValueIdx.ix2 (⟨(i 0).val % 8, by omega⟩ : Fin 8) (i 1))

/-- What lands in slot `c` of device `j` from device `c`'s rows block `j`. -/
theorem landed_slot (c j : Dev nD) {o : Fin 3 → ℕ} (e : o = ![c.val, 0, 0]) (h) {o' : Fin 2 → ℕ} (e' : o' = ![8 * j.val, 0]) (h')
    (f : (cc0_scratch1 : Ref sig .tc).ty.Contents (Elt F)) (i : S32x8x256.Idx) (hi : i ∈ slotS c) :
    (slotAt o h).view.write (Elt F) f ((rowsAt accM o' h').view.read (Elt F) (A c)) Finset.univ i = commC A j i := by
  have hi' : i ∈ (slotAt o h).view.set := by rw [slot_set c e h]; exact hi
  obtain ⟨x, rfl⟩ := View.exists_emb_of_mem_set _ hi'
  rw [View.write_emb_of_mem _ _ (Finset.mem_univ x), cast_eq, View.read_apply, slot_emb c e h x]
  show A c ((Rect.unit (s := S256x256) o' S8x256.size h').emb x) = _
  rw [rows_emb j e' h' x]; rfl

/-- What lands in rows block `s` of a device's result from device `s`. -/
theorem landed_rows (s : Dev nD) {o : Fin 2 → ℕ} (e : o = ![8 * s.val, 0]) (h)
    (f : (cc0_stg4_0 : Ref sig .tc).ty.Contents (Elt F)) (i : S256x256.Idx) (hi : i ∈ rowsS s) :
    (rowsAt outM o h).view.write (Elt F) f (redC A s) Finset.univ i = outC A i := by
  have hi' : i ∈ (rowsAt outM o h).view.set := by rw [out_set s e h]; exact hi
  obtain ⟨x, rfl⟩ := View.exists_emb_of_mem_set _ hi'
  rw [View.write_emb_of_mem _ _ (Finset.mem_univ x), cast_eq]
  rw [show (rowsAt outM o h).view.emb x = _ from rows_emb s e h x]
  have h0 : (x 0).val < 8 := (x 0).isLt
  have e1 : (⟨(8 * s.val + (x 0).val) / 8, by have : s.val < 32 := s.isLt; show _ < 32; omega⟩ : Dev nD) = s := Fin.ext (by show (8 * s.val + (x 0).val) / 8 = s.val; omega)
  have e2 : (⟨(8 * s.val + (x 0).val) % 8, by omega⟩ : Fin 8) = x 0 := Fin.ext (by show (8 * s.val + (x 0).val) % 8 = (x 0).val; omega)
  show redC A s x = redC A ⟨(8 * s.val + (x 0).val) / 8, _⟩ (ValueIdx.ix2 (⟨(8 * s.val + (x 0).val) % 8, _⟩ : Fin 8) (x 1))
  rw [e1, e2]; exact congrArg (redC A s) (ValueIdx.eq_ix2 x)

end Contents

end Cert.Run

end
-- ==== Proof.Sched.lean ====
/-
# The protocol of the two exchanges

Every semaphore of the protocol has one round. The entry barrier and the exit semaphore of a device are signalled once by
each other device; number `j` of a DMA array is raised by one transfer, for `j` not the device itself. A duty is named
by the other device it is about.

* entry signal of `d` to `c`: gives `c` the slot `c` of `d`'s receive buffer and the rows block `c` of `d`'s result, which
  `c` will write;
* first transfer left / arrived: the sender's rows are its own again / the slot holds the sender's rows;
* second transfer left / arrived: the sender's share of its reduced rows is back / the rows block holds the final rows;
* exit signal: nothing.

A device owes the others, in this order of levels: its entry signals, its first transfers, its second transfers, its exit
signals (phases 0 to 3); it waits only on semaphores whose level is below everything it still owes.
-/
module

public import proofs.«01_k».proof.Proof.Cells

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state (duties named by devices), beside the pipeline library's. -/
abbrev UB : Type := URounds (GSem nD τ sig) (Dev nD)
/-- The ghost state: the staging cells and the protocol cells. -/
abbrev UU : Type := UR sig nD τ × UB

local notation "𝕄" => MT nD τ sig Unit (Elt F) ℕ UU ℕ

/-- Where the staging cells' ghost state lives. -/
abbrev EP : Emb (UR sig nD τ) (MT nD τ sig Unit (Elt F) ℕ UU ℕ) := embL
/-- Where the protocol cells' ghost state lives. -/
abbrev ER : Emb UB (MT nD τ sig Unit (Elt F) ℕ UU ℕ) := embR

/-- Device `c`'s semaphore `ci`. -/
abbrev cell (c : Dev nD) (ci : CI) : GSem nD τ sig := ((c : Thread nD τ), csem ci)

/-- Different names are different cells. -/
theorem cell_injective : Function.Injective fun x : Dev nD × CI => cell x.1 x.2 := by
  rintro ⟨c, k⟩ ⟨c', k'⟩ h
  have h1 : c = c' := congrArg (fun g : GSem nD τ sig => g.1.1) h
  have h2 : k = k' := csem_injective (congrArg Prod.snd h)
  rw [h1, h2]

/-- The credit of a transfer of 8 × 256 elements. -/
abbrev N : ℕ := (redM : Memref sig .tc .vmem S8x256 .f32).view.dmaCredit
/-- A copy's credit is positive. -/
theorem N_pos : 0 < N := View.dmaCredit_pos _ (by decide)

/-! ## The blocks as assertions -/

section Pts
/-- Slot `j` of device `c`'s receive buffer, at contents `f`. -/
def slotP (c : Dev nD) (j : Fin 32) (f : Vec F S32x8x256 .f32) : sProp 𝕄 := ((c : Thread nD τ).loc cc0_scratch1) ↦[slotS j]{fullShare} f
/-- Rows block `j` of device `c`'s partial product. -/
def accP (c : Dev nD) (j : Fin 32) (f : Vec F S256x256 .f32) : sProp 𝕄 := ((c : Thread nD τ).loc cc0_scratch0) ↦[rowsS j]{fullShare} f
/-- Rows block `j` of device `c`'s result. -/
def outP (c : Dev nD) (j : Fin 32) (f : Vec F S256x256 .f32) : sProp 𝕄 := ((c : Thread nD τ).loc cc0_stg4_0) ↦[rowsS j]{fullShare} f
/-- Share `j` of 32 of device `c`'s reduced rows. -/
def redP (c : Dev nD) (j : Fin 32) (f : Vec F S8x256 .f32) : sProp 𝕄 := ((c : Thread nD τ).loc cc0_scratch2) ↦{ShareLeaves.leaf 5 fullShare j} f

instance (c : Dev nD) (j : Fin 32) (f) : BI.Storable (upEmb : UEmb _ 𝕄) (slotP (F := F) c j f) := by unfold slotP; infer_instance
instance (c : Dev nD) (j : Fin 32) (f) : BI.Storable (upEmb : UEmb _ 𝕄) (accP (F := F) c j f) := by unfold accP; infer_instance
instance (c : Dev nD) (j : Fin 32) (f) : BI.Storable (upEmb : UEmb _ 𝕄) (outP (F := F) c j f) := by unfold outP; infer_instance
instance (c : Dev nD) (j : Fin 32) (f) : BI.Storable (upEmb : UEmb _ 𝕄) (redP (F := F) c j f) := by unfold redP; infer_instance

/-- The receive buffer is its slots. -/
theorem comm_blocks (c : Dev nD) (f : Vec F S32x8x256 .f32) :
    (((c : Thread nD τ).loc cc0_scratch1) ↦{fullShare} f : sProp 𝕄) = bigSep Finset.univ fun j => slotP c j f :=
  by unfold slotP; exact Ring.pointsTo_blocks (ℓ := (c : Thread nD τ).loc cc0_scratch1) slotS slots_disjoint slots_cover f
/-- The partial product is its rows blocks. -/
theorem acc_blocks (c : Dev nD) (f : Vec F S256x256 .f32) :
    (((c : Thread nD τ).loc cc0_scratch0) ↦{fullShare} f : sProp 𝕄) = bigSep Finset.univ fun j => accP c j f :=
  by unfold accP; exact Ring.pointsTo_blocks (ℓ := (c : Thread nD τ).loc cc0_scratch0) rowsS rows_disjoint rows_cover f
/-- The result is its rows blocks. -/
theorem out_blocks (c : Dev nD) (f : Vec F S256x256 .f32) :
    (((c : Thread nD τ).loc cc0_stg4_0) ↦{fullShare} f : sProp 𝕄) = bigSep Finset.univ fun j => outP c j f :=
  by unfold outP; exact Ring.pointsTo_blocks (ℓ := (c : Thread nD τ).loc cc0_stg4_0) rowsS rows_disjoint rows_cover f
/-- The reduced rows are their shares. -/
theorem red_shares (c : Dev nD) (f : Vec F S8x256 .f32) :
    (((c : Thread nD τ).loc cc0_scratch2) ↦{fullShare} f : sProp 𝕄) = bigSep Finset.univ fun j => redP c j f :=
  by unfold redP; exact ShareLeaves.pointsTo_leaves (ℓ := (c : Thread nD τ).loc cc0_scratch2) Finset.univ f 5 fullShare

/-- A slot is its elements. -/
theorem slotP_congr (c : Dev nD) (j : Fin 32) {f g : Vec F S32x8x256 .f32} (h : ∀ i ∈ slotS j, f i = g i) : slotP c j f = slotP c j g := pointsTo_congr h
/-- A rows block of the result is its elements. -/
theorem outP_congr (c : Dev nD) (j : Fin 32) {f g : Vec F S256x256 .f32} (h : ∀ i ∈ rowsS j, f i = g i) : outP c j f = outP c j g := pointsTo_congr h
end Pts

/-! ## The schedule -/

/-- The duties of a device's semaphore. -/
def duties (c : Dev nD) : CI → Finset (Dev nD)
  | .inl _ => Finset.univ.erase c
  | .inr (_, j) => if j = c then ∅ else {j}

/-- The units of one duty. -/
def units : CI → ℕ
  | .inl _ => 1
  | .inr _ => N
/-- Every duty pays something. -/
theorem units_pos (ci : CI) : 0 < units ci := by rcases ci with _ | _; exacts [Nat.one_pos, N_pos]

section Sched
variable (A : Dev nD → Vec F S256x256 .f32)

/-- What the duty `d` of a device's semaphore hands over. -/
def pay (c : Dev nD) (d : Dev nD) : CI → sProp 𝕄
  | .inl false => iprop((∃ f, slotP d c f) ∗ ∃ f, outP d c f)
  | .inl true => iprop(emp)
  | .inr (0, j) => accP c j (A c)
  | .inr (1, s) => slotP c s (commC A c)
  | .inr (2, j) => redP c j (redC A c)
  | .inr (3, s) => outP c s (outC A)

instance pay_storable (c d : Dev nD) (ci : CI) : BI.Storable (upEmb : UEmb _ 𝕄) (pay A c d ci) := by
  rcases ci with (_ | _) | ⟨a, j⟩
  · show BI.Storable upEmb (iprop((∃ f, slotP d c f) ∗ ∃ f, outP d c f)); infer_instance
  · show BI.Storable upEmb (iprop(emp)); infer_instance
  · fin_cases a
    · show BI.Storable upEmb (accP c j (A c)); infer_instance
    · show BI.Storable upEmb (slotP c j (commC A c)); infer_instance
    · show BI.Storable upEmb (redP c j (redC A c)); infer_instance
    · show BI.Storable upEmb (outP c j (outC A)); infer_instance

/-- One round on every semaphore of the protocol. -/
def Rd : Rounds.Schedule (GSem nD τ sig) (Dev nD) 𝕄 where
  duties g r := if r = 0 ∧ g.1.2 = .tc then (decode g.2).elim ∅ (duties g.1.1) else ∅
  unitless _ := False
  amount g _ _ := (decode g.2).elim 1 units
  payload g _ d := (decode g.2).elim iprop(emp) (pay A g.1.1 d)
  amount_pos g _ _ _ := by
    cases h : decode g.2 with
    | none => exact Nat.one_pos
    | some ci => exact units_pos ci

instance Rd_payload_storable (g : GSem nD τ sig) (r : ℕ) (d : Dev nD) :
    BI.Storable (upEmb : UEmb _ 𝕄) ((Rd A).payload g r d) := by
  show BI.Storable upEmb ((decode g.2).elim iprop(emp) (pay A g.1.1 d))
  cases h : decode g.2 with
  | none => show BI.Storable upEmb (iprop(emp)); infer_instance
  | some ci => show BI.Storable upEmb (pay A g.1.1 d ci); infer_instance

variable (c : Dev nD) (ci : CI)

/-- A cell's duties, in its one round. -/
theorem Rd_duties : (Rd A).duties (cell c ci) 0 = duties c ci := by
  dsimp only [Rd]; rw [if_pos ⟨rfl, rfl⟩, decode_csem]; rfl
/-- No cell has a later round. -/
theorem Rd_later (g : GSem nD τ sig) : ∀ r, 1 ≤ r → (Rd A).duties g r = ∅ :=
  fun r hr => by dsimp only [Rd]; rw [if_neg fun h => by omega]
/-- What each duty pays. -/
theorem Rd_amount (d : Dev nD) : (Rd A).amount (cell c ci) 0 d = units ci := by
  dsimp only [Rd]; rw [decode_csem]; rfl
/-- What each duty hands over. -/
theorem Rd_payload (d : Dev nD) : (Rd A).payload (cell c ci) 0 d = pay A c d ci := by
  dsimp only [Rd]; rw [decode_csem]; rfl
/-- What a cell expects in all. -/
theorem Rd_expect : (Rd A).expect (cell c ci) 0 = (duties c ci).card * units ci := by
  unfold Schedule.expect Schedule.amountOf
  rw [Rd_duties, Finset.sum_congr rfl fun d _ => Rd_amount A c ci d, Finset.sum_const, smul_eq_mul]
/-- The payloads of a round none of whose duties is taken. -/
theorem Rd_rest : bigSep ((Rd A).duties (cell c ci) 0 \ ∅) (fun d => (Rd A).payload (cell c ci) 0 d) = bigSep (duties c ci) (fun d => pay A c d ci) := by
  rw [Finset.sdiff_empty, Rd_duties]; exact bigSep_congr fun d _ => Rd_payload A c ci d

/-- The semaphores of a device with no duty at all. -/
theorem Rd_own (a : Fin 4) : ∀ r, 0 ≤ r → (Rd A).duties (cell c (.inr (a, c))) r = ∅ := fun r _ => by
  rcases Nat.eq_zero_or_pos r with rfl | h
  · rw [Rd_duties]; exact if_pos rfl
  · exact Rd_later A _ r h

end Sched

/-- There are 31 other devices. -/
theorem card_others (c : Dev nD) : (Finset.univ.erase c).card = 31 := by
  rw [Finset.card_erase_of_mem (Finset.mem_univ c), Finset.card_univ]; rfl

/-! ## What a device owes, phase by phase, and the levels -/

/-- The semaphore of the receiver that device `c` raises in phase `p`. -/
def phCI : Fin 4 → Dev nD → CI
  | 0, _ => .inl false
  | 1, c => .inr (1, c)
  | 2, c => .inr (3, c)
  | 3, _ => .inl true

/-- What device `c` owes device `j` in phase `p`. -/
abbrev oweOne (p : Fin 4) (c j : Dev nD) : CellTallies nD τ sig Unit := tallyAt (cell j (phCI p c)) () (units (phCI p c))
/-- What device `c` owes in phase `p`. -/
def oweAll (p : Fin 4) (c : Dev nD) : CellTallies nD τ sig Unit := ∑ j ∈ Finset.univ.erase c, oweOne p c j
/-- What device `c` owes from phase `k` on. -/
def oweFrom (k : ℕ) (c : Dev nD) : CellTallies nD τ sig Unit := ∑ p ∈ (Finset.univ : Finset (Fin 4)).filter (fun p => k ≤ p.val), oweAll p c

/-- What is owed from a phase on is that phase and what is owed after it. -/
theorem oweFrom_step (p : Fin 4) (c : Dev nD) : oweFrom p.val c = oweFrom (p.val + 1) c + oweAll p c := by
  unfold oweFrom
  rw [show (Finset.univ : Finset (Fin 4)).filter (fun q => p.val ≤ q.val) = insert p (Finset.univ.filter (fun q => p.val + 1 ≤ q.val)) by
    revert p; decide, Finset.sum_insert (by simp), add_comm]
/-- After the last phase nothing is owed. -/
theorem oweFrom_end (c : Dev nD) : oweFrom 4 c = 0 := by
  unfold oweFrom; rw [show (Finset.univ : Finset (Fin 4)).filter (fun q => 4 ≤ q.val) = ∅ by decide, Finset.sum_empty]

/-- The levels are on the TensorCores' cells. -/
def L (g : GSem nD τ sig) : Finset Unit := if g.1.2 = .tc then {()} else ∅
/-- The level of a semaphore's index. -/
def level : CI → ℕ
  | .inl false => 1
  | .inl true => 4
  | .inr (a, _) => if a = 1 then 2 else if a = 3 then 3 else 0
/-- A cell's level. -/
def lv (g : GSem nD τ sig) (_ : Unit) : ℕ := (decode g.2).elim 0 level

/-- A protocol cell's level is that of its phase. -/
theorem lv_cell (c : Dev nD) (ci : CI) : lv (cell c ci) () = level ci := by dsimp only [lv]; rw [decode_csem]; rfl
/-- Other threads have no levels. -/
theorem L_of_ne (g : GSem nD τ sig) (h : g.1.2 ≠ .tc) : L g = ∅ := if_neg h
/-- A TensorCore's cell has one level. -/
theorem L_tc (c : Dev nD) (sm : SemLoc sig) : L ((c : Thread nD τ), sm) = {()} := if_pos rfl
/-- A phase pays onto cells one level above its number. -/
theorem level_phCI (p : Fin 4) (c : Dev nD) : level (phCI p c) = p.val + 1 := by fin_cases p <;> rfl

/-- Where a sum of tallies is not zero, one of them is not. -/
theorem tallies_sum_pos {ι : Type} [DecidableEq ι] (s : Finset ι) (T : ι → CellTallies nD τ sig Unit) {g : GSem nD τ sig} {u : Unit}
    (h : 0 < (∑ i ∈ s, T i) g u) : ∃ i ∈ s, 0 < T i g u := by
  by_contra hn
  push Not at hn
  have : ∀ s' ⊆ s, (∑ i ∈ s', T i) g u = 0 := by
    intro s'
    induction s' using Finset.induction_on with
    | empty => intro _; rfl
    | insert a s'' ha ih =>
      intro hs
      rw [Finset.sum_insert ha, Pi.add_apply, Finsupp.add_apply, ih fun x hx => hs (Finset.mem_insert_of_mem hx)]
      have := hn a (hs (Finset.mem_insert_self _ _)); omega
  have := this s (Finset.Subset.refl _); omega

/-- Whatever is owed from phase `k` on is at a level above `k`. -/
theorem oweFrom_pos {k : ℕ} {c : Dev nD} {g : GSem nD τ sig} {u : Unit} (h : 0 < oweFrom k c g u) : g.1.2 = .tc ∧ k < lv g u := by
  obtain ⟨p, hp, h⟩ := tallies_sum_pos _ _ h
  obtain ⟨j, hj, h⟩ := tallies_sum_pos _ _ h
  rw [tallyAt_apply] at h
  by_cases e : g = cell j (phCI p c) ∧ u = ()
  · have hk := (Finset.mem_filter.mp hp).2
    rw [e.1]
    refine ⟨rfl, ?_⟩
    rw [lv_cell, level_phCI]; omega
  · rw [if_neg e] at h; exact absurd h (Nat.lt_irrefl 0)

/-- A device may wait on a semaphore of level at most `k` while it owes from phase `k` on. -/
theorem mayWait (c : Dev nD) (sm : SemLoc sig) (k : ℕ) (h : lv ((c : Thread nD τ), sm) () ≤ k) :
    (levAts L lv : sProp 𝕄) ⊢ MayWait (c : Thread nD τ) sm () (oweFrom k c) :=
  MayOwe.of_cut (L := L) (lev := lv) k (fun p hp => by rw [Finset.mem_singleton.mp hp, L_tc]; exact Finset.mem_singleton_self _)
    (fun g u hg => by unfold L; rw [if_pos (oweFrom_pos hg).1]; exact Finset.mem_singleton_self _)
    (fun p hp => by rw [Finset.mem_singleton.mp hp]; exact h)
    (fun g u hg => (oweFrom_pos hg).2)

end Cert.Run

end
-- ==== Proof.Steps.lean ====
/-
# The rule for a loop over the other devices, and a rule per loop operation

`wp_loop`: if one pass about device `j` turns `R j` and an owed amount `T j` into `S j`, the whole loop turns the `R j` of
all other devices, and all they are owed, into their `S j`. The rules after it are the passes of the kernel's loops.
-/
module

public import proofs.«01_k».proof.Proof.Sched

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the program needs a variant. -/
abbrev 𝒱₀ : Variants := Variants.none

/-- The weakest precondition of a program of device `c`. -/
abbrev WP (c : Dev nD) (p : P F PUnit.{1}) (Q : PUnit.{1} → sProp 𝕄) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

/-! ## The loop -/

/-- The kernel's test is that the device is another one. -/
theorem bit_iff (c j : Dev nD) : bit (me c) j.val = 1#1 ↔ j ≠ c := by revert c j; decide +kernel

/-- The other devices from `a` on. -/
def later (c : Dev nD) (a : ℕ) : Finset (Dev nD) := (Finset.univ.erase c).filter fun j => a ≤ j.val

/-- At the start all other devices are to come. -/
theorem later_zero (c : Dev nD) : later c 0 = Finset.univ.erase c := Finset.filter_true_of_mem fun _ _ => Nat.zero_le _
/-- At the end none is. -/
theorem later_end (c : Dev nD) : later c 32 = ∅ := Finset.filter_false_of_mem fun j _ => Nat.not_le.mpr j.isLt
/-- The device's own pass takes none away. -/
theorem later_self (c : Dev nD) : later c c.val = later c (c.val + 1) := by
  ext j; unfold later; rw [Finset.mem_filter, Finset.mem_filter]
  refine and_congr_right fun h => ?_
  have : j.val ≠ c.val := fun e => (Finset.mem_erase.mp h).1 (Fin.ext e)
  omega
/-- Another device's pass takes that device away. -/
theorem later_other (c j : Dev nD) (h : j ≠ c) : later c j.val = insert j (later c (j.val + 1)) := by
  ext i; unfold later; rw [Finset.mem_insert, Finset.mem_filter, Finset.mem_filter]
  constructor
  · rintro ⟨h1, h2⟩
    rcases eq_or_ne i j with e | e
    · exact .inl e
    · have : i.val ≠ j.val := fun e' => e (Fin.ext e')
      exact .inr ⟨h1, by omega⟩
  · rintro (rfl | ⟨h1, h2⟩)
    · exact ⟨Finset.mem_erase.mpr ⟨h, Finset.mem_univ _⟩, Nat.le_refl _⟩
    · exact ⟨h1, by omega⟩
/-- A device whose pass is done is not to come. -/
theorem notMem_later (c j : Dev nD) : j ∉ later c (j.val + 1) := fun h => by
  have := (Finset.mem_filter.mp h).2; omega

/-- One member of a conjunction over a set, apart from the rest. -/
theorem split_at {I : Type} [DecidableEq I] {i : I} {s : Finset I} (h : i ∉ s) {Φ : I → sProp 𝕄} :
    bigSep (insert i s) Φ = iprop(Φ i ∗ bigSep s Φ) := bigSep_insert h

section Loop
variable (c : Dev nD) (C : sProp (MT nD τ sig Unit (Elt F) ℕ UU ℕ)) [BI.Persistent C] (p : (j : ℕ) → j < 32 → P F PUnit.{1}) (R S : Dev nD → sProp (MT nD τ sig Unit (Elt F) ℕ UU ℕ))
  (V : CellTallies nD τ sig Unit → sProp (MT nD τ sig Unit (Elt F) ℕ UU ℕ)) (T : Dev nD → CellTallies nD τ sig Unit) (Q : PUnit.{1} → sProp (MT nD τ sig Unit (Elt F) ℕ UU ℕ)) (O : CellTallies nD τ sig Unit)
  (hstep : ∀ (j : Dev nD), j ≠ c → ∀ (s : CellTallies nD τ sig Unit) (k : P F PUnit.{1}),
    iprop(C ∗ R j ∗ V (s + T j) ∗ ((S j ∗ V s) -∗ WP c k Q)) ⊢ WP c (p j.val j.isLt >>= fun _ => k) Q)

include hstep

/-- The passes from `a` on. -/
theorem wp_loop_from (k : P F PUnit.{1}) : ∀ (n a : ℕ) (h : a + n ≤ 32), a + n = 32 →
    iprop(C ∗ bigSep (later c a) R ∗ V (O + ∑ j ∈ later c a, T j) ∗ ((bigSep (later c a) S ∗ V O) -∗ WP c k Q))
      ⊢ WP c (loop (bit (me c)) p a n h k) Q
  | 0, a, h, e => by
    obtain rfl : a = 32 := e
    rw [later_end, Finset.sum_empty, add_zero, bigSep_empty, bigSep_empty]
    show _ ⊢ WP c k Q
    iintro ⟨-, -, Ho, Hk⟩
    iapply Hk
    isplitr; · iempintro
    iexact Ho
  | n + 1, a, h, e => by
    have ih := wp_loop_from k n (a + 1) (by omega) (by omega)
    show _ ⊢ WP c (step (bit (me c) a) (p a (by omega)) (loop (bit (me c)) p (a + 1) n (by omega) k)) Q
    obtain ⟨j, rfl⟩ : ∃ j : Dev nD, j.val = a := ⟨⟨a, by show a < 32; omega⟩, rfl⟩
    unfold step
    by_cases hj : j = c
    · subst hj
      rw [dif_neg fun hb => (bit_iff j j).mp hb rfl, later_self]
      exact ih
    · rw [dif_pos ((bit_iff c j).mpr hj), later_other c j hj, split_at (notMem_later c j), split_at (notMem_later c j),
        Finset.sum_insert (notMem_later c j), add_comm (T j), ← add_assoc]
      iintro ⟨#HC, ⟨HR, HRs⟩, Ho, Hk⟩
      iapply (hstep j hj _ _)
      isplitr; · iexact HC
      isplitl [HR]; · iexact HR
      isplitl [Ho]; · iexact Ho
      iintro ⟨HS, Ho⟩
      iapply ih
      isplitr; · iexact HC
      isplitl [HRs]; · iexact HRs
      isplitl [Ho]; · iexact Ho
      iintro ⟨HSs, Ho⟩
      iapply Hk
      isplitr [Ho]
      · isplitl [HS] <;> iassumption
      · iexact Ho

/-- The whole loop; `V s` is what is held while `s` is owed. -/
theorem wp_loop (k : P F PUnit.{1}) :
    iprop(C ∗ bigSep (Finset.univ.erase c) R ∗ V (O + ∑ j ∈ Finset.univ.erase c, T j) ∗ ((bigSep (Finset.univ.erase c) S ∗ V O) -∗ WP c k Q))
      ⊢ WP c (loop (bit (me c)) p 0 32 (by decide) k) Q := by
  have := wp_loop_from c C p R S V T Q O hstep k 32 0 (by decide) rfl
  rwa [later_zero] at this

end Loop

/-- A loop of waits: what is owed stays the same. -/
theorem wp_loop_waits (c : Dev nD) (C : sProp 𝕄) [BI.Persistent C] (p : (j : ℕ) → j < 32 → P F PUnit.{1}) (R S : Dev nD → sProp 𝕄)
    (V : sProp 𝕄) (Q : PUnit.{1} → sProp 𝕄)
    (hstep : ∀ (j : Dev nD), j ≠ c → ∀ (k : P F PUnit.{1}),
      iprop(C ∗ R j ∗ V ∗ ((S j ∗ V) -∗ WP c k Q)) ⊢ WP c (p j.val j.isLt >>= fun _ => k) Q) (k : P F PUnit.{1}) :
    iprop(C ∗ bigSep (Finset.univ.erase c) R ∗ V ∗ ((bigSep (Finset.univ.erase c) S ∗ V) -∗ WP c k Q))
      ⊢ WP c (loop (bit (me c)) p 0 32 (by decide) k) Q :=
  wp_loop c C p R S (fun _ => V) (fun _ => 0) Q 0 (fun j hj _ => hstep j hj) k

/-! ## The persistent context: every semaphore's invariant, every round reached, the levels -/

section Ctx
variable (A : Dev nD → Vec F S256x256 .f32) (K : Dev nD × CI → ℕ)

/-- All cells' invariants, under their names. -/
def recs : sProp 𝕄 := bigSep Finset.univ fun x : Dev nD × CI =>
  iprop(cellInv ER (Rd A) (K x) (cell x.1 x.2) ∗ reached ER (cell x.1 x.2) 0)
instance recs_persistent : BI.Persistent (recs A K) := by unfold recs; infer_instance

/-- One cell's invariant, out of all. -/
theorem recs_at (c : Dev nD) (ci : CI) :
    recs A K ⊢ iprop(cellInv ER (Rd A) (K (c, ci)) (cell c ci) ∗ reached ER (cell c ci) 0) :=
  bigSep_elim (Φ := fun x : Dev nD × CI => iprop(cellInv ER (Rd A) (K x) (cell x.1 x.2) ∗ reached ER (cell x.1 x.2) 0)) (Finset.mem_univ (c, ci))

/-- What every step may use. -/
def ctx : sProp 𝕄 := iprop(recs A K ∗ levAts L lv)
instance ctx_persistent : BI.Persistent (ctx A K) := by unfold ctx; infer_instance

/-! ## Signals -/

variable (c : Dev nD) (Q : PUnit.{1} → sProp (MT nD τ sig Unit (Elt F) ℕ UU ℕ))

/-- The semaphores that are signalled. -/
def regS : Bool → Sem sig
  | false => barS
  | true => exitS
/-- The two regular semaphores. -/
theorem csem_inl (b : Bool) : csem (.inl b) = .reg (regS b) := by cases b <;> rfl

/-- One signal to another device. -/
theorem step_sig (b : Bool) (j : Dev nD) (hj : j ≠ c) (s : CellTallies nD τ sig Unit) (k : P F PUnit.{1}) :
    iprop(ctx A K ∗ (dutyTok ER (cell j (.inl b)) 0 c ∗ pay A j c (.inl b)) ∗ ow c (s + tallyAt (cell j (.inl b)) () 1)
        ∗ ((emp ∗ ow c s) -∗ WP c k Q))
      ⊢ WP c (sigOp (regS b) j.val j.isLt >>= fun _ => k) Q := by
  have e : cell j (.inl b) = ((j : Thread nD τ), .reg (regS b)) := by rw [cell, csem_inl]
  have hd : c ∈ (Rd A).duties ((j : Thread nD τ), .reg (regS b)) 0 := by
    rw [← e, Rd_duties]; exact Finset.mem_erase.mpr ⟨hj.symm, Finset.mem_univ _⟩
  have hk : (Rd A).amount ((j : Thread nD τ), .reg (regS b)) 0 c = (1#32 : BitVec 32).toNat := by
    rw [← e, Rd_amount]; rfl
  unfold sigOp semSignalWord
  simp only [Prog.lift, Prog.bind_op, Prog.bind_ret, Prog.pure_eq_ret]
  unfold ow ctx
  iintro ⟨⟨#HI, -⟩, ⟨Htok, Hpay⟩, ⟨%W, Ho⟩, Hk⟩
  ihave Hr := (recs_at A K j (.inl b)) $$ HI
  icases Hr with ⟨#Hinv, #Hre⟩
  iapply (Rounds.wp_signal 𝒱₀ ER (Rd A) (c : Thread nD τ) none (dst := (j : Thread nD τ)) (κ := K (j, .inl b)) (d := c) hd hk () s (O₀ := s + tallyAt (cell j (.inl b)) () 1) (by rw [e]; rfl))
    $$ [Ho Htok Hpay]
  · rw [← e, Rd_payload]
    isplitr; · iexact Hinv
    isplitl [Ho]; · iexact Ho
    isplitl [Htok]; · iexact Htok
    isplitl [Hpay]; · iexact Hpay
    iexact Hre
  iintro Ho
  iapply Hk
  isplitr; · iempintro
  iexists W; iexact Ho

/-! ## Waits -/

/-- A wait for the whole round of a semaphore of the device itself. -/
theorem wp_wait_cell {w : TpuEff nD τ sig (Elt F) Λ₀ .tc PUnit} (ci : CI) (n : ℕ)
    (hw : ∀ Kt : PUnit → sProp 𝕄, wpE (defs₀ (F := F)) 𝒱₀ (c : Thread nD τ) none Set.univ w Kt = waitSpec (c : Thread nD τ) Set.univ (csem ci) n Kt)
    (hn : n = (duties c ci).card * units ci) (lo : ℕ) (hlo : level ci ≤ lo) (k : PUnit → P F PUnit.{1}) :
    iprop(ctx A K ∗ (cred (tallyAt (cell c ci) () n) ∗ atPos ER (cell c ci) 0 ∅ 0) ∗ ow c (oweFrom lo c)
        ∗ (((atPos ER (cell c ci) 1 ∅ 0 ∗ bigSep (duties c ci) fun d => pay A c d ci) ∗ ow c (oweFrom lo c)) -∗ WP c (k ⟨⟩) Q))
      ⊢ WP c (.op w k) Q := by
  unfold ow ctx
  iintro ⟨⟨#HI, #HL⟩, ⟨Hc, Hat⟩, ⟨%W, Ho⟩, Hk⟩
  ihave Hr := (recs_at A K c ci) $$ HI
  icases Hr with ⟨#Hinv, -⟩
  iapply (Rounds.wp_wait_rest_token 𝒱₀ ER (Rd A) (c : Thread nD τ) none (κ := K (c, ci)) hw (Set.mem_univ _) () (O := oweFrom lo c) (W := W)
      (R := 0) (m := 0) (T := ∅) (by rw [Nat.zero_add, Rd_expect]; exact hn)) $$ [Hc Ho Hat]
  · isplitr; · iexact Hinv
    isplitl [Hc]; · iexact Hc
    isplitl [Ho]; · iexact Ho
    isplitr; · iapply (mayWait c (csem ci) lo (by rw [show lv ((c : Thread nD τ), csem ci) () = level ci from lv_cell c ci]; exact hlo)); iexact HL
    iexact Hat
  iintro ⟨Ho, Hat, -, Hpay⟩
  ihave Hp := (Entails.of_eq (Rd_rest A c ci)) $$ Hpay
  iapply Hk
  isplitr [Ho]
  · isplitl [Hat]; · iexact Hat
    iexact Hp
  iexists _; iexact Ho

/-- The wait for the 31 signals of the others. -/
theorem step_gather (b : Bool) (lo : ℕ) (hlo : level (.inl b) ≤ lo) (k : P F PUnit.{1}) :
    iprop(ctx A K ∗ (cred (tallyAt (cell c (.inl b)) () 31) ∗ atPos ER (cell c (.inl b)) 0 ∅ 0) ∗ ow c (oweFrom lo c)
        ∗ (((atPos ER (cell c (.inl b)) 1 ∅ 0 ∗ bigSep (Finset.univ.erase c) fun d => pay A c d (.inl b)) ∗ ow c (oweFrom lo c)) -∗ WP c k Q))
      ⊢ WP c (semWaitWord (regS b) 31#32 >>= fun _ => k) Q := by
  unfold semWaitWord
  simp only [Prog.lift, Prog.bind_op, Prog.bind_ret, Prog.pure_eq_ret]
  exact wp_wait_cell A K c Q (.inl b) 31 (fun Kt => by rw [csem_inl]; exact wpE_semWait_eq 𝒱₀ (c : Thread nD τ) none Set.univ Kt)
    (by show 31 = (Finset.univ.erase c).card * 1; rw [card_others]) lo hlo fun _ => k

/-- The wait on a DMA semaphore for its one transfer. -/
theorem wp_wait_dma {w : TpuEff nD τ sig (Elt F) Λ₀ .tc PUnit} (a : Fin 4) (j : Dev nD) (hj : j ≠ c)
    (hw : ∀ Kt : PUnit → sProp 𝕄, wpE (defs₀ (F := F)) 𝒱₀ (c : Thread nD τ) none Set.univ w Kt = waitSpec (c : Thread nD τ) Set.univ (.dma (dmaIx a j)) N Kt)
    (lo : ℕ) (hlo : level (.inr (a, j)) ≤ lo) (k : PUnit → P F PUnit.{1}) :
    iprop(ctx A K ∗ (cred (tallyAt (cell c (.inr (a, j))) () N) ∗ atPos ER (cell c (.inr (a, j))) 0 ∅ 0) ∗ ow c (oweFrom lo c)
        ∗ (((atPos ER (cell c (.inr (a, j))) 1 ∅ 0 ∗ pay A c j (.inr (a, j))) ∗ ow c (oweFrom lo c)) -∗ WP c (k ⟨⟩) Q))
      ⊢ WP c (.op w k) Q := by
  have hd : duties c (.inr (a, j)) = {j} := if_neg hj
  have := wp_wait_cell A K c Q (.inr (a, j)) N hw (by rw [hd, Finset.card_singleton, Nat.one_mul]; rfl) lo hlo k
  rwa [hd, bigSep_singleton] at this

/-! ## Transfers -/

/-- A transfer to another device: it pays the sender's duty and the receiver's. -/
theorem wp_transfer (j : Dev nD) (hj : j ≠ c) (a b : Fin 4) {sp sp' : Space} {e : EltTy} {sh : Shape}
    {src : Memref sig (c : Thread nD τ).2.kind sp sh e} {dst : Memref sig (j : Thread nD τ).2.kind sp' sh e} {hsc : dst.view.ref.isScScratch = false}
    {sS sem : SemLoc sig} {hsrc : src.view.WordExact} {hdst : dst.view.WordExact} {hsem : DmaTarget.Typed sp sem (.remote (j : Thread nD τ) dst sS hsc)}
    (hs : sS = csem (.inr (a, j))) (hr : sem = csem (.inr (b, c))) (hN : ∀ q, dst.view.amount (.dma q) = N) {q : PosShare TreeShare}
    {fs : Buf (Elt F) (src.view.loc (c : Thread nD τ))} {fd : Buf (Elt F) (dst.view.loc (j : Thread nD τ))}
    (hpay₁ : (src.view.loc (c : Thread nD τ) ↦[src.view.set]{q} fs) ⊢ pay A c j (.inr (a, j)))
    (hpay₂ : (dst.view.loc (j : Thread nD τ) ↦[dst.view.set]{fullShare} (dst.view.write (Elt F) fd (src.view.read (Elt F) fs) Finset.univ))
      ⊢ pay A j c (.inr (b, c)))
    (s : CellTallies nD τ sig Unit) (k : PUnit → P F PUnit) :
    iprop(ctx A K ∗ ((dutyTok ER (cell c (.inr (a, j))) 0 j ∗ dutyTok ER (cell j (.inr (b, c))) 0 c)
          ∗ (src.view.loc (c : Thread nD τ) ↦[src.view.set]{q} fs) ∗ (dst.view.loc (j : Thread nD τ) ↦[dst.view.set]{fullShare} fd))
        ∗ ow c (s + tallyAt (cell j (.inr (b, c))) () N)
        ∗ ((cred (tallyAt (cell c (.inr (a, j))) () N) ∗ ow c s) -∗ WP c (k ⟨⟩) Q))
      ⊢ WP c (.op (.enqueueDma src (.remote (j : Thread nD τ) dst sS hsc) sem hsrc hdst hsem) k) Q := by
  subst hs hr
  have hd : j ∈ (Rd A).duties (cell c (.inr (a, j))) 0 := by
    rw [Rd_duties, show duties c (.inr (a, j)) = {j} from if_neg hj]; exact Finset.mem_singleton_self _
  have hd' : c ∈ (Rd A).duties (cell j (.inr (b, c))) 0 := by
    rw [Rd_duties, show duties j (.inr (b, c)) = {c} from if_neg hj.symm]; exact Finset.mem_singleton_self _
  unfold ow ctx
  iintro ⟨⟨#HI, -⟩, ⟨⟨Ht, Ht'⟩, Hsrc, Hdst⟩, ⟨%W, Ho⟩, Hk⟩
  ihave Hr := (recs_at A K c (.inr (a, j))) $$ HI
  icases Hr with ⟨#Hinv, #Hre⟩
  ihave Hr' := (recs_at A K j (.inr (b, c))) $$ HI
  icases Hr' with ⟨#Hinv', #Hre'⟩
  iapply (Rounds.wp_send_pointsTo 𝒱₀ ER (Rd A) (c : Thread nD τ) none (κ₁ := K (c, .inr (a, j))) (κ₂ := K (j, .inr (b, c)))
    (r₁ := 0) (r₂ := 0) (d₁ := j) (d₂ := c) (fd := fd)
    hd hd'
    () () N (hN _) (Rd_amount A c (.inr (a, j)) j) (Rd_amount A j (.inr (b, c)) c) s rfl (W := W)
    (hpay₁.trans (Entails.of_eq (Rd_payload A c (.inr (a, j)) j).symm)) (hpay₂.trans (Entails.of_eq (Rd_payload A j (.inr (b, c)) c).symm)))
    $$ [Hsrc Hdst Ho Ht Ht']
  · isplitr; · iexact Hinv
    isplitr; · iexact Hinv'
    isplitl [Hsrc]; · iexact Hsrc
    isplitl [Hdst]; · iexact Hdst
    isplitl [Ho]; · iexact Ho
    isplitl [Ht]; · iexact Ht
    isplitr; · iexact Hre
    isplitl [Ht']; · iexact Ht'
    iexact Hre'
  iintro ⟨Hc, Ho⟩
  iapply Hk
  isplitl [Hc]; · iexact Hc
  iexists W; iexact Ho

/-- The two transfers' destinations have the credit `N`. -/
theorem slot_amount (o) (h) (q : DmaSem sig) : (slotAt o h).view.amount (.dma q) = N := rfl
/-- The credit of a copy of a rows block. -/
theorem rows_amount (o) (h) (q : DmaSem sig) : (rowsAt outM o h).view.amount (.dma q) = N := rfl

/-- The first transfer to device `j`: the rows block `j` of the partial product into slot `c` of `j`. -/
theorem step_send1 (j : Dev nD) (hj : j ≠ c) (s : CellTallies nD τ sig Unit) (k : P F PUnit) :
    iprop(ctx A K ∗ ((dutyTok ER (cell c (.inr (0, j))) 0 j ∗ dutyTok ER (cell j (.inr (1, c))) 0 c) ∗ accP c j (A c) ∗ ∃ f, slotP j c f)
        ∗ ow c (s + oweOne 1 c j) ∗ ((cred (tallyAt (cell c (.inr (0, j))) () N) ∗ ow c s) -∗ WP c k Q))
      ⊢ WP c (send1Op c j.val j.isLt >>= fun _ => k) Q := by
  unfold send1Op
  simp only [Prog.lift, Prog.bind_op, Prog.bind_ret]
  iintro ⟨HC, ⟨Ht, Ha, ⟨%f, Hs⟩⟩, Ho, Hk⟩
  iapply (wp_transfer A K c Q j hj 0 1 (congrArg SemLoc.dma (sem3_lit j)) (congrArg SemLoc.dma (sem4_own c)) (slot_amount _ _)
    (src := rowsAt accM ![8 * j.val, 0] (inb_rows rfl j.isLt)) (dst := slotAt (k0_off2 c) (inb_slot (k0_off2_eq c) c.isLt)) (q := fullShare)
    (fs := A c) (fd := f)
    (by rw [acc_set j rfl]; exact BI.Entails.refl _)
    (by rw [slot_set c (k0_off2_eq c)]; exact Entails.of_eq (slotP_congr j c (landed_slot A c j (k0_off2_eq c) _ rfl _ f))) s fun _ => k)
  isplitl [HC]; · iexact HC
  isplitl [Ht Ha Hs]
  · isplitl [Ht]; · iexact Ht
    isplitl [Ha]
    · rw [acc_set j rfl]; unfold accP; iexact Ha
    · rw [slot_set c (k0_off2_eq c)]; unfold slotP; iexact Hs
  isplitl [Ho]; · iexact Ho
  iexact Hk

/-- The second transfer to device `j`: the reduced rows into the rows block `c` of `j`'s result. -/
theorem step_send2 (j : Dev nD) (hj : j ≠ c) (s : CellTallies nD τ sig Unit) (k : P F PUnit) :
    iprop(ctx A K ∗ ((dutyTok ER (cell c (.inr (2, j))) 0 j ∗ dutyTok ER (cell j (.inr (3, c))) 0 c) ∗ redP c j (redC A c) ∗ ∃ f, outP j c f)
        ∗ ow c (s + oweOne 2 c j) ∗ ((cred (tallyAt (cell c (.inr (2, j))) () N) ∗ ow c s) -∗ WP c k Q))
      ⊢ WP c (send2Op c j.val j.isLt >>= fun _ => k) Q := by
  unfold send2Op
  simp only [Prog.lift, Prog.bind_op, Prog.bind_ret]
  iintro ⟨HC, ⟨Ht, Ha, ⟨%f, Hs⟩⟩, Ho, Hk⟩
  iapply (wp_transfer A K c Q j hj 2 3 (congrArg SemLoc.dma (sem5_lit j)) (congrArg SemLoc.dma (sem6_own c)) (rows_amount _ _)
    (src := redM) (dst := rowsAt outM (k0_off68 c) (inb_rows (k0_off68_eq c) c.isLt))
    (q := ShareLeaves.leaf 5 fullShare j) (fs := redC A c) (fd := f)
    (by rw [View.set_whole]; exact BI.Entails.refl _)
    (by rw [out_set c (k0_off68_eq c), View.read_whole]; exact Entails.of_eq (outP_congr j c (landed_rows A c (k0_off68_eq c) _ f))) s fun _ => k)
  isplitl [HC]; · iexact HC
  isplitl [Ht Ha Hs]
  · isplitl [Ht]; · iexact Ht
    isplitl [Ha]
    · rw [View.set_whole]; unfold redP; iexact Ha
    · rw [out_set c (k0_off68_eq c)]; unfold outP; iexact Hs
  isplitl [Ho]; · iexact Ho
  iexact Hk

/-! ## The waits of the loops -/

/-- What a device holds of a DMA semaphore before it waits on it, and after. -/
def before (a : Fin 4) (j : Dev nD) : sProp 𝕄 := iprop(cred (tallyAt (cell c (.inr (a, j))) () N) ∗ atPos ER (cell c (.inr (a, j))) 0 ∅ 0)
/-- What a wait on entry `j` of array `a` leaves: the cell at its end, and what was handed over. -/
def after (a : Fin 4) (j : Dev nD) : sProp 𝕄 := iprop(atPos ER (cell c (.inr (a, j))) 1 ∅ 0 ∗ pay A c j (.inr (a, j)))

/-- The wait for the first transfer of device `j`. -/
theorem step_wait1 (lo : ℕ) (hlo : 2 ≤ lo) (j : Dev nD) (hj : j ≠ c) (k : P F PUnit) :
    iprop(ctx A K ∗ before c 1 j ∗ ow c (oweFrom lo c) ∗ ((after A c 1 j ∗ ow c (oweFrom lo c)) -∗ WP c k Q))
      ⊢ WP c (wait1Op j.val j.isLt >>= fun _ => k) Q := by
  unfold wait1Op
  simp only [Prog.lift, Prog.bind_op, Prog.bind_ret]
  exact wp_wait_dma A K c Q 1 j hj (fun Kt => by rw [wpE_waitDma2_eq 𝒱₀ (c : Thread nD τ) none Set.univ Kt, sem4_lit]) lo hlo fun _ => k

/-- The wait for the second transfer of device `j`. -/
theorem step_wait2 (lo : ℕ) (hlo : 3 ≤ lo) (j : Dev nD) (hj : j ≠ c) (k : P F PUnit) :
    iprop(ctx A K ∗ before c 3 j ∗ ow c (oweFrom lo c) ∗ ((after A c 3 j ∗ ow c (oweFrom lo c)) -∗ WP c k Q))
      ⊢ WP c (wait2Op j.val j.isLt >>= fun _ => k) Q := by
  unfold wait2Op
  simp only [Prog.lift, Prog.bind_op, Prog.bind_ret]
  exact wp_wait_dma A K c Q 3 j hj (fun Kt => by rw [wpE_waitDma2_eq 𝒱₀ (c : Thread nD τ) none Set.univ Kt, sem6_lit]) lo hlo fun _ => k

/-- The waits for the device's own two transfers to `j` to have left. -/
theorem step_left (lo : ℕ) (j : Dev nD) (hj : j ≠ c) (k : P F PUnit) :
    iprop(ctx A K ∗ (before c 0 j ∗ before c 2 j) ∗ ow c (oweFrom lo c) ∗ (((after A c 0 j ∗ after A c 2 j) ∗ ow c (oweFrom lo c)) -∗ WP c k Q))
      ⊢ WP c (leftOp c j.val j.isLt >>= fun _ => k) Q := by
  unfold leftOp before after
  simp only [Prog.lift, Prog.bind_op, Prog.bind_ret]
  iintro ⟨#HC, ⟨H0, H2⟩, Ho, Hk⟩
  iapply (wp_wait_dma A K c Q 0 j hj (fun Kt => by rw [wpE_waitDma2_eq 𝒱₀ (c : Thread nD τ) none Set.univ Kt, sem3_lit]) lo (Nat.zero_le _))
  isplitr; · iexact HC
  isplitl [H0]; · iexact H0
  isplitl [Ho]; · iexact Ho
  iintro ⟨H0, Ho⟩
  iapply (wp_wait_dma A K c Q 2 j hj (fun Kt => by rw [wpE_waitDma2_eq 𝒱₀ (c : Thread nD τ) none Set.univ Kt, sem5_lit]) lo (Nat.zero_le _))
  isplitr; · iexact HC
  isplitl [H2]; · iexact H2
  isplitl [Ho]; · iexact Ho
  iintro ⟨H2, Ho⟩
  iapply Hk
  isplitr [Ho]
  · isplitl [H0] <;> iassumption
  · iexact Ho

end Ctx

end Cert.Run

end
-- ==== Proof.Local.lean ====
/-
# The three local stretches of the kernel: the partial product, the own slot, the reduction
-/
module

public import proofs.«01_k».proof.Proof.Steps

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The zero offset on two axes. -/
theorem hz2 : (![0, 0] : Fin 2 → ℕ) = fun _ => 0 := funext fun a => by fin_cases a <;> rfl
/-- The zero offset on three axes. -/
theorem hz3 : (![0, 0, 0] : Fin 3 → ℕ) = fun _ => 0 := funext fun a => by fin_cases a <;> rfl

/-! Loads and stores of whole buffers. -/

/-- Loading the whole of the input buffer reads it. -/
theorem read_x (f : Vec F S256x256 .bf16) : (xM : Memref sig .tc .vmem S256x256 .bf16).view.readAt (Elt F) (Rect.unit (s := S256x256) ![0, 0] S256x256.size inb_S256x256_S256x256_0_0).toLoadRect f = f :=
  Memref.readAt_unit_zero (Elt F) cc0_stg0_0 hz2 _ f
/-- Loading the whole of the gate weights' buffer reads it. -/
theorem read_wg (f : Vec F S256x512 .bf16) : (wgM : Memref sig .tc .vmem S256x512 .bf16).view.readAt (Elt F) (Rect.unit (s := S256x512) ![0, 0] S256x512.size inb_S256x512_S256x512_0_0).toLoadRect f = f :=
  Memref.readAt_unit_zero (Elt F) cc0_stg1_0 hz2 _ f
/-- Loading the whole of the up weights' buffer reads it. -/
theorem read_wu (f : Vec F S256x512 .bf16) : (wuM : Memref sig .tc .vmem S256x512 .bf16).view.readAt (Elt F) (Rect.unit (s := S256x512) ![0, 0] S256x512.size inb_S256x512_S256x512_0_0).toLoadRect f = f :=
  Memref.readAt_unit_zero (Elt F) cc0_stg2_0 hz2 _ f
/-- Loading the whole of the down weights' buffer reads it. -/
theorem read_wd (f : Vec F S512x256 .bf16) : (wdM : Memref sig .tc .vmem S512x256 .bf16).view.readAt (Elt F) (Rect.unit (s := S512x256) ![0, 0] S512x256.size inb_S512x256_S512x256_0_0).toLoadRect f = f :=
  Memref.readAt_unit_zero (Elt F) cc0_stg3_0 hz2 _ f
/-- Loading the whole of the receive buffer reads it. -/
theorem read_comm (f : Vec F S32x8x256 .f32) : (commM : Memref sig .tc .vmem S32x8x256 .f32).view.readAt (Elt F) (Rect.unit (s := S32x8x256) ![0, 0, 0] S32x8x256.size inb_S32x8x256_S32x8x256_0_0_0).toLoadRect f = f :=
  Memref.readAt_unit_zero (Elt F) cc0_scratch1 hz3 _ f
/-- Loading the whole of the reduced rows reads them. -/
theorem read_red (f : Vec F S8x256 .f32) : (redM : Memref sig .tc .vmem S8x256 .f32).view.readAt (Elt F) (Rect.unit (s := S8x256) ![0, 0] S8x256.size inb_S8x256_S8x256_0_0).toLoadRect f = f :=
  Memref.readAt_unit_zero (Elt F) cc0_scratch2 hz2 _ f
/-- Storing over the whole of the partial product's buffer replaces it. -/
theorem write_acc (f w : Vec F S256x256 .f32) :
    ((accM : Memref sig .tc .vmem S256x256 .f32).access (Rect.unit (s := S256x256) ![0, 0] S256x256.size inb_S256x256_S256x256_0_0) : View sig .tc _ _ _).write (Elt F) f w Finset.univ = w :=
  Memref.write_access_unit_zero_univ (Elt F) cc0_scratch0 hz2 _ f w
/-- Storing over the whole of the reduced rows replaces them. -/
theorem write_red (f w : Vec F S8x256 .f32) :
    ((redM : Memref sig .tc .vmem S8x256 .f32).access (Rect.unit (s := S8x256) ![0, 0] S8x256.size inb_S8x256_S8x256_0_0) : View sig .tc _ _ _).write (Elt F) f w Finset.univ = w :=
  Memref.write_access_unit_zero_univ (Elt F) cc0_scratch2 hz2 _ f w

/-- The own slot after the store of the own rows. -/
theorem stored_slot (A : Dev nD → Vec F S256x256 .f32) (c : Dev nD) {o : Fin 3 → ℕ} (e : o = ![c.val, 0, 0]) (h)
    {o' : Fin 2 → ℕ} (e' : o' = ![8 * c.val, 0]) (h') (f : (cc0_scratch1 : Ref sig .tc).ty.Contents (Elt F)) (i : S32x8x256.Idx) (hi : i ∈ slotS c) :
    (commM.access (Rect.unit (s := S32x8x256) o S1x8x256.size h) : View sig .tc _ _ _).write (Elt F) f
      (k0_pay2 ((accM.access (Rect.unit (s := S256x256) o' S8x256.size h') : View sig .tc _ _ _).read (Elt F) (A c))) Finset.univ i = commC A c i := by
  have hi' : i ∈ (commM.access (Rect.unit (s := S32x8x256) o S1x8x256.size h) : View sig .tc _ _ _).set := by
    rw [← slot_set c e h] at hi; exact View.set_reshape (commM.slice _ _).view _ ▸ hi
  obtain ⟨y, rfl⟩ := View.exists_emb_of_mem_set _ hi'
  refine (View.write_emb_of_mem (v := (commM.access (Rect.unit (s := S32x8x256) o S1x8x256.size h) : View sig .tc _ _ _)) _ _ (Finset.mem_univ y)).trans ?_
  subst e
  rw [cast_eq]
  obtain ⟨u, r, k, rfl⟩ : ∃ u r k, y = (ValueIdx.ix3 u r k : S1x8x256.Idx) := ⟨_, _, _, ValueIdx.eq_ix3 y⟩
  unfold k0_pay2
  refine (ValueIdx.shapeCast_ab_1ab_apply (a := 8) (b := 256) _ _ u r k).trans ?_
  refine (congrArg (A c) (rows_emb c e' h' (ValueIdx.ix2 r k))).trans ?_
  show _ = commC A c ((Rect.unit (s := S32x8x256) ![c.val, 0, 0] S1x8x256.size h).emb (ValueIdx.ix3 u r k))
  have hu : u.val = 0 := by have := u.isLt; omega
  rw [show (Rect.unit (s := S32x8x256) ![c.val, 0, 0] S1x8x256.size h).emb (ValueIdx.ix3 u r k) = (ValueIdx.ix3 (⟨c.val, c.isLt⟩ : Fin 32) r k : S32x8x256.Idx) from by
    funext a; refine Fin.ext ((ValueKit.rect_emb_unit_val _ _ _ _ a).trans ?_)
    fin_cases a
    · show c.val + u.val = c.val; omega
    · exact Nat.zero_add _
    · exact Nat.zero_add _]
  rfl

section
variable (A : Dev nD → Vec F S256x256 .f32) (c : Dev nD) (Q : PUnit.{1} → sProp (MT nD τ sig Unit (Elt F) ℕ UU ℕ)) (k : P F PUnit.{1})
  (x : Vec F S256x256 .bf16) (wg wu : Vec F S256x512 .bf16) (wd : Vec F S512x256 .bf16)

/-- The four staged inputs of a device. -/
def ins : sProp 𝕄 :=
  iprop((((c : Thread nD τ).loc cc0_stg0_0) ↦{fullShare} x) ∗ (((c : Thread nD τ).loc cc0_stg1_0) ↦{fullShare} wg)
    ∗ (((c : Thread nD τ).loc cc0_stg2_0) ↦{fullShare} wu) ∗ (((c : Thread nD τ).loc cc0_stg3_0) ↦{fullShare} wd))

/-- The partial product is computed and stored. -/
theorem wp_compute (s : Sem sig) (fa : Vec F S256x256 .f32) :
    iprop(ins c x wg wu wd ∗ (((c : Thread nD τ).loc cc0_scratch0) ↦{fullShare} fa)
        ∗ ((ins c x wg wu wd ∗ (((c : Thread nD τ).loc cc0_scratch0) ↦{fullShare} k0_pay1 x wg wu wd)) -∗ WP c (semWaitWord s 31#32 >>= fun _ => k) Q))
      ⊢ WP c (computeOp s k) Q := by
  unfold computeOp
  simp only [Prog.lift, Prog.bind_op, Prog.bind_ret, Prog.pure_eq_ret]
  unfold ins
  iintro ⟨⟨Hx, Hg, Hu, Hd⟩, Ha, Hk⟩
  iapply (wp_load 𝒱₀ (c : Thread nD τ) none Set.univ (m := xM) (Finset.subset_univ _)) $$ Hx; iintro Hx
  rw [read_x]
  iapply (wp_load 𝒱₀ (c : Thread nD τ) none Set.univ (m := wgM) (Finset.subset_univ _)) $$ Hg; iintro Hg
  rw [read_wg]
  iapply (wp_load 𝒱₀ (c : Thread nD τ) none Set.univ (m := wuM) (Finset.subset_univ _)) $$ Hu; iintro Hu
  rw [read_wu]
  iapply (wp_load 𝒱₀ (c : Thread nD τ) none Set.univ (m := wdM) (Finset.subset_univ _)) $$ Hd; iintro Hd
  rw [read_wd]
  iapply (wp_load 𝒱₀ (c : Thread nD τ) none Set.univ (m := accM) (Finset.subset_univ _)) $$ Ha; iintro Ha
  iapply (wp_store 𝒱₀ (c : Thread nD τ) none Set.univ (m := accM) (r := Rect.unit (s := S256x256) ![0, 0] S256x256.size inb_S256x256_S256x256_0_0) (Mk := Finset.univ) (Finset.subset_univ _)) $$ Ha; iintro Ha
  rw [write_acc]
  iapply Hk
  isplitr [Ha]
  · isplitl [Hx]; · iexact Hx
    isplitl [Hg]; · iexact Hg
    isplitl [Hu] <;> iassumption
  · iexact Ha

/-- The own rows are copied into the own slot. -/
theorem wp_ownSlot (f : Vec F S32x8x256 .f32) :
    iprop(accP c c (A c) ∗ slotP c c f ∗ ((accP c c (A c) ∗ slotP c c (commC A c)) -∗ WP c k Q)) ⊢ WP c (ownSlotOp c k) Q := by
  unfold ownSlotOp
  simp only [Prog.lift, Prog.bind_op, Prog.bind_ret, Prog.pure_eq_ret]
  iintro ⟨Ha, Hs, Hk⟩
  rw [← slotP_congr c c (stored_slot A c (k0_off66_eq c) (k0_off66_inb c) (k0_off65_eq c) (k0_off65_inb c) f)]
  unfold accP slotP
  iapply (wp_load_rect 𝒱₀ (c : Thread nD τ) none Set.univ (m := accM) (r := Rect.unit (s := S256x256) (k0_off65 c) S8x256.size (k0_off65_inb c)) (S := rowsS c)
    (by rw [← rows_rect c (k0_off65_eq c) (k0_off65_inb c)]; exact (View.set_slice_whole _ _).subset)) $$ Ha; iintro Ha
  have hslot : (commM.access (Rect.unit (s := S32x8x256) (k0_off66 c) S1x8x256.size (k0_off66_inb c)) : View sig .tc _ _ _).set ⊆ slotS c := by
    rw [← slot_set c (k0_off66_eq c) (k0_off66_inb c)]; exact (View.set_reshape _ _).symm.subset
  iapply (wp_load_rect 𝒱₀ (c : Thread nD τ) none Set.univ (m := commM) (r := Rect.unit (s := S32x8x256) (k0_off66 c) S1x8x256.size (k0_off66_inb c)) (S := slotS c) hslot) $$ Hs; iintro Hs
  iapply (wp_store 𝒱₀ (c : Thread nD τ) none Set.univ (m := commM) (r := Rect.unit (s := S32x8x256) (k0_off66 c) S1x8x256.size (k0_off66_inb c)) (Mk := Finset.univ) (S := slotS c) (by rwa [View.setOn_univ])) $$ Hs; iintro Hs
  iapply Hk
  isplitl [Ha] <;> iassumption

/-- The slots are reduced, and the reduced rows copied into the own rows of the result. -/
theorem wp_reduce (fr : Vec F S8x256 .f32) (fo : Vec F S256x256 .f32) :
    iprop((((c : Thread nD τ).loc cc0_scratch1) ↦{fullShare} commC A c) ∗ (((c : Thread nD τ).loc cc0_scratch2) ↦{fullShare} fr) ∗ outP c c fo
        ∗ (((((c : Thread nD τ).loc cc0_scratch1) ↦{fullShare} commC A c) ∗ (((c : Thread nD τ).loc cc0_scratch2) ↦{fullShare} redC A c)
          ∗ outP c c (outC A)) -∗ WP c k Q))
      ⊢ WP c (reduceOp c k) Q := by
  unfold reduceOp
  simp only [Prog.lift, Prog.bind_op, Prog.bind_ret, Prog.pure_eq_ret]
  iintro ⟨Hs, Hr, Ho, Hk⟩
  rw [← outP_congr c c (landed_rows A c (k0_off65_eq c) (k0_off65_inb c) fo)]
  unfold outP
  iapply (wp_load 𝒱₀ (c : Thread nD τ) none Set.univ (m := commM) (Finset.subset_univ _)) $$ Hs; iintro Hs
  rw [read_comm]
  iapply (wp_load 𝒱₀ (c : Thread nD τ) none Set.univ (m := redM) (Finset.subset_univ _)) $$ Hr; iintro Hr
  iapply (wp_store 𝒱₀ (c : Thread nD τ) none Set.univ (m := redM) (r := Rect.unit (s := S8x256) ![0, 0] S8x256.size inb_S8x256_S8x256_0_0) (Mk := Finset.univ) (Finset.subset_univ _)) $$ Hr; iintro Hr
  rw [write_red]
  iapply (wp_load 𝒱₀ (c : Thread nD τ) none Set.univ (m := redM) (Finset.subset_univ _)) $$ Hr; iintro Hr
  rw [read_red]
  have hrows : (outM.access (Rect.unit (s := S256x256) (k0_off65 c) S8x256.size (k0_off65_inb c)) : View sig .tc _ _ _).set ⊆ rowsS c := by
    rw [← rows_rect c (k0_off65_eq c) (k0_off65_inb c)]; exact (View.set_slice_whole _ _).subset
  iapply (wp_load_rect 𝒱₀ (c : Thread nD τ) none Set.univ (m := outM) (r := Rect.unit (s := S256x256) (k0_off65 c) S8x256.size (k0_off65_inb c)) (S := rowsS c) hrows) $$ Ho; iintro Ho
  iapply (wp_store 𝒱₀ (c : Thread nD τ) none Set.univ (m := outM) (r := Rect.unit (s := S256x256) (k0_off65 c) S8x256.size (k0_off65_inb c)) (Mk := Finset.univ) (S := rowsS c) (by rwa [View.setOn_univ])) $$ Ho; iintro Ho
  iapply Hk
  isplitl [Hs]; · iexact Hs
  isplitl [Hr]; · iexact Hr
  iexact Ho

end

end Cert.Run

end
-- ==== Proof.Body.lean ====
/-
# The kernel's body at a device

`wp_prog`: from the device's buffers, its tokens, its credits and its positions at round 0 of its semaphores, the body runs
to the end with the final contents in its buffers, nothing owed, and every one of its semaphores at zero.
-/
module

public import proofs.«01_k».proof.Proof.Local

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over devices and over a device's semaphores -/

/-- The other devices. -/
abbrev others (c : Dev nD) : Finset (Dev nD) := Finset.univ.erase c

/-- A device's own part, and the others'. -/
theorem split_own (c : Dev nD) (Φ : Dev nD → sProp 𝕄) : bigSep Finset.univ Φ = iprop(Φ c ∗ bigSep (others c) Φ) :=
  bigSep_univ_at Φ c

/-- Two conjunctions over the same set as one. -/
theorem join {I : Type} [DecidableEq I] (s : Finset I) (Φ Ψ : I → sProp 𝕄) :
    iprop(bigSep s Φ ∗ bigSep s Ψ) = bigSep s fun i => iprop(Φ i ∗ Ψ i) := (bigSep_sep' s Φ Ψ).symm

/-- A separating product over the two truth values. -/
theorem bigSep_bool (Φ : Bool → sProp 𝕄) : bigSep Finset.univ Φ = iprop(Φ false ∗ Φ true) :=
  bigSep_univ_eq_bigSepL [false, true] (by decide) (by decide) Φ
/-- A separating product over the four semaphore arrays. -/
theorem bigSep_arr (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The device's semaphores one array at a time, its own index apart. -/
theorem split_cells (c : Dev nD) (Φ : CI → sProp 𝕄) :
    bigSep Finset.univ Φ = iprop((Φ (.inl false) ∗ Φ (.inl true))
      ∗ (Φ (.inr (0, c)) ∗ bigSep (others c) fun j => Φ (.inr (0, j))) ∗ (Φ (.inr (1, c)) ∗ bigSep (others c) fun j => Φ (.inr (1, j)))
      ∗ (Φ (.inr (2, c)) ∗ bigSep (others c) fun j => Φ (.inr (2, j))) ∗ (Φ (.inr (3, c)) ∗ bigSep (others c) fun j => Φ (.inr (3, j)))) := by
  rw [bigSep_univ_sum, bigSep_bool, bigSep_univ_prod, bigSep_arr]
  simp only [split_own c]
  rfl

/-! ## What the body starts from and ends with -/

section Prog
variable (A : Dev nD → Vec F S256x256 .f32) (K : Dev nD × CI → ℕ) (c : Dev nD)

/-- The tokens of the duties the device pays. -/
def toks : sProp 𝕄 :=
  iprop((bigSep (others c) fun j => dutyTok ER (cell j (.inl false)) 0 c)
    ∗ (bigSep (others c) fun j => iprop(dutyTok ER (cell c (.inr (0, j))) 0 j ∗ dutyTok ER (cell j (.inr (1, c))) 0 c))
    ∗ (bigSep (others c) fun j => iprop(dutyTok ER (cell c (.inr (2, j))) 0 j ∗ dutyTok ER (cell j (.inr (3, c))) 0 c))
    ∗ bigSep (others c) fun j => dutyTok ER (cell j (.inl true)) 0 c)

/-- The credits of what the others owe the device. -/
def creds : sProp 𝕄 :=
  iprop(cred (tallyAt (cell c (.inl false)) () 31)
    ∗ (bigSep (others c) fun s => cred (tallyAt (cell c (.inr (1, s))) () N))
    ∗ (bigSep (others c) fun s => cred (tallyAt (cell c (.inr (3, s))) () N))
    ∗ cred (tallyAt (cell c (.inl true)) () 31))

/-- The device's positions at round `0` of its semaphores. -/
def ats : sProp 𝕄 := bigSep Finset.univ fun ci => atPos ER (cell c ci) 0 ∅ 0

/-- Its three scratch buffers and its result's buffer, at whatever contents. -/
def bufs : sProp 𝕄 :=
  iprop((∃ f : Vec F S256x256 .f32, ((c : Thread nD τ).loc cc0_scratch0) ↦{fullShare} f)
    ∗ (∃ f : Vec F S32x8x256 .f32, ((c : Thread nD τ).loc cc0_scratch1) ↦{fullShare} f)
    ∗ (∃ f : Vec F S8x256 .f32, ((c : Thread nD τ).loc cc0_scratch2) ↦{fullShare} f)
    ∗ ∃ f : Vec F S256x256 .f32, ((c : Thread nD τ).loc cc0_stg4_0) ↦{fullShare} f)

/-- The same at their final contents. -/
def bufsEnd : sProp 𝕄 :=
  iprop((((c : Thread nD τ).loc cc0_scratch0) ↦{fullShare} A c) ∗ (((c : Thread nD τ).loc cc0_scratch1) ↦{fullShare} commC A c)
    ∗ (((c : Thread nD τ).loc cc0_scratch2) ↦{fullShare} redC A c) ∗ ((c : Thread nD τ).loc cc0_stg4_0) ↦{fullShare} outC A)

/-- The round a device's semaphore has reached at the end. -/
def endRound : CI → ℕ
  | .inl _ => 1
  | .inr (_, j) => if j = c then 0 else 1

/-- The positions at the end. -/
def atsEnd : sProp 𝕄 := bigSep Finset.univ fun ci => atPos ER (cell c ci) (endRound c ci) ∅ 0

/-- All counters of the device at zero. -/
def zeros : sProp 𝕄 := bigSep Finset.univ fun ci => semVal (cell c ci) 0

/-- The invariants of device `c`'s own cells, out of all. -/
theorem recs_own : recs A K ⊢ bigSep Finset.univ fun ci => cellInv ER (Rd A) (K (c, ci)) (cell c ci) := by
  refine (BI.bigSep_of_persistent (Finset.univ : Finset CI) (recs A K)).trans (bigSep_mono fun ci _ => ?_)
  show recs A K ⊢ cellInv ER (Rd A) (K (c, ci)) (cell c ci)
  iintro H
  ihave Hr := (recs_at A K c ci) $$ H
  icases Hr with ⟨H, -⟩
  iexact H

/-- At the end every counter closes at zero. -/
theorem close : iprop(ctx A K ∗ atsEnd c) ⊢ (|={Set.univ}=> zeros c : sProp 𝕄) := by
  refine BI.Entails.trans ?_ (Rounds.cells_close ER (Rd A) Finset.univ (fun ci => cell c ci) (fun ci => K (c, ci)) (fun _ _ => Set.mem_univ _)
    (fun _ _ h => h) (endRound c) fun ci _ r hr => ?_)
  · show iprop(ctx A K ∗ atsEnd c) ⊢ bigSep Finset.univ fun ci => iprop(cellInv ER (Rd A) (K (c, ci)) (cell c ci) ∗ atPos ER (cell c ci) (endRound c ci) ∅ 0)
    unfold ctx atsEnd
    iintro ⟨⟨HI, -⟩, Hat⟩
    ihave HI := (recs_own A K c) $$ HI
    iapply (Entails.of_eq (join _ _ _))
    isplitl [HI] <;> iassumption
  · rcases ci with b | ⟨a, j⟩
    · exact Rd_later A _ r hr
    · have hr : (if j = c then 0 else 1) ≤ r := hr
      by_cases h : j = c
      · subst h; exact Rd_own A j a r (Nat.zero_le _)
      · rw [if_neg h] at hr; exact Rd_later A _ r hr

/-- What a DMA array's waits leave. -/
theorem after_split (a : Fin 4) : (bigSep (others c) fun j => after A c a j)
    = iprop((bigSep (others c) fun j => atPos ER (cell c (.inr (a, j))) (endRound c (.inr (a, j))) ∅ 0) ∗ bigSep (others c) fun j => pay A c j (.inr (a, j))) := by
  rw [join]
  refine bigSep_congr fun j hj => ?_
  rw [show endRound c (.inr (a, j)) = 1 from if_neg (Finset.ne_of_mem_erase hj)]; rfl

/-- A device's cell towards itself has no round. -/
theorem own_round (a : Fin 4) : endRound c (.inr (a, c)) = 0 := if_pos rfl

/-! ## The run -/

/-- What the body starts from. -/
def bodyFrom (x : Vec F S256x256 .bf16) (wg wu : Vec F S256x512 .bf16) (wd : Vec F S512x256 .bf16) : sProp 𝕄 :=
  iprop(ctx A K ∗ toks c ∗ creds c ∗ ats c ∗ bufs c ∗ ins c x wg wu wd ∗ ow c (oweFrom 0 c))

/-- What it ends with. -/
def bodyTo (x : Vec F S256x256 .bf16) (wg wu : Vec F S256x512 .bf16) (wd : Vec F S512x256 .bf16) : sProp 𝕄 :=
  iprop(zeros c ∗ bufsEnd A c ∗ ins c x wg wu wd ∗ ow c 0)

/-- The other slots, their contents forgotten. -/
theorem some_slots (f : Vec F S32x8x256 .f32) : (bigSep (others c) fun j => slotP c j f) ⊢ bigSep (others c) fun j => iprop(∃ f, slotP c j f) :=
  bigSep_mono fun j _ => show slotP c j f ⊢ iprop(∃ f, slotP c j f) by iintro H; iexists f; iexact H
/-- The other rows blocks of the result, their contents forgotten. -/
theorem some_rows (f : Vec F S256x256 .f32) : (bigSep (others c) fun j => outP c j f) ⊢ bigSep (others c) fun j => iprop(∃ f, outP c j f) :=
  bigSep_mono fun j _ => show outP c j f ⊢ iprop(∃ f, outP c j f) by iintro H; iexists f; iexact H
/-- The exit tokens, each as the payer's duty. -/
theorem exit_pays : (bigSep (others c) fun j => dutyTok ER (cell j (.inl true)) 0 c)
    ⊢ bigSep (others c) fun j => iprop(dutyTok ER (cell j (.inl true)) 0 c ∗ pay A j c (.inl true)) :=
  bigSep_mono fun j _ => show dutyTok ER (cell j (.inl true)) 0 c ⊢ iprop(dutyTok ER (cell j (.inl true)) 0 c ∗ emp) by
    iintro H; isplitl; · iexact H
    iempintro

variable (Q : PUnit.{1} → sProp (MT nD τ sig Unit (Elt F) ℕ UU ℕ)) (k : P F PUnit.{1})

/-- The entry signals: the others' slots of the receive buffer and rows of the result are lent. -/
theorem run_enter (fc : Vec F S32x8x256 .f32) (fo : Vec F S256x256 .f32) :
    iprop(ctx A K ∗ (bigSep (others c) fun j => dutyTok ER (cell j (.inl false)) 0 c)
        ∗ (bigSep (others c) fun j => slotP c j fc) ∗ (bigSep (others c) fun j => outP c j fo) ∗ ow c (oweFrom 0 c)
        ∗ (ow c (oweFrom 1 c) -∗ WP c k Q))
      ⊢ WP c (loop (bit (me c)) (sigOp barS) 0 32 (by decide) k) Q := by
  rw [show oweFrom 0 c = oweFrom 1 c + ∑ j ∈ others c, oweOne 0 c j from oweFrom_step 0 c]
  iintro ⟨#HC, Ht, Hs, Hr, Ho, Hk⟩
  iapply (wp_loop c (ctx A K) (sigOp barS) (fun j => iprop(dutyTok ER (cell j (.inl false)) 0 c ∗ pay A j c (.inl false))) (fun _ => iprop(emp)) (ow c)
    (fun j => oweOne 0 c j) Q (oweFrom 1 c) (fun j hj s k => step_sig A K c Q false j hj s k) k)
  isplitr; · iexact HC
  isplitl [Ht Hs Hr]
  · iapply (Entails.of_eq (join _ _ _))
    isplitl [Ht]; · iexact Ht
    iapply (show iprop((bigSep (others c) fun j => iprop(∃ f, slotP c j f)) ∗ bigSep (others c) fun j => iprop(∃ f, outP c j f))
      ⊢ bigSep (others c) fun j => pay A j c (.inl false) from Entails.of_eq (join _ _ _))
    isplitl [Hs]
    · iapply (some_slots c fc); iexact Hs
    · iapply (some_rows c fo); iexact Hr
  isplitl [Ho]; · iexact Ho
  iintro ⟨-, Ho⟩
  iapply Hk; iexact Ho

/-- The exit signals. -/
theorem run_exit :
    iprop(ctx A K ∗ (bigSep (others c) fun j => dutyTok ER (cell j (.inl true)) 0 c) ∗ ow c (oweFrom 3 c) ∗ (ow c (oweFrom 4 c) -∗ WP c k Q))
      ⊢ WP c (loop (bit (me c)) (sigOp exitS) 0 32 (by decide) k) Q := by
  rw [show oweFrom 3 c = oweFrom 4 c + ∑ j ∈ others c, oweOne 3 c j from oweFrom_step 3 c]
  iintro ⟨#HC, Ht, Ho, Hk⟩
  iapply (wp_loop c (ctx A K) (sigOp exitS) (fun j => iprop(dutyTok ER (cell j (.inl true)) 0 c ∗ pay A j c (.inl true))) (fun _ => iprop(emp)) (ow c)
    (fun j => oweOne 3 c j) Q (oweFrom 4 c) (fun j hj s k => step_sig A K c Q true j hj s k) k)
  isplitr; · iexact HC
  isplitl [Ht]
  · iapply (exit_pays A c); iexact Ht
  isplitl [Ho]; · iexact Ho
  iintro ⟨-, Ho⟩
  iapply Hk; iexact Ho

/-- The first transfers. -/
theorem run_send1 :
    iprop(ctx A K ∗ (bigSep (others c) fun j => iprop(dutyTok ER (cell c (.inr (0, j))) 0 j ∗ dutyTok ER (cell j (.inr (1, c))) 0 c))
        ∗ (bigSep (others c) fun j => accP c j (A c)) ∗ (bigSep (others c) fun j => iprop(∃ f, slotP j c f)) ∗ ow c (oweFrom 1 c)
        ∗ (((bigSep (others c) fun j => cred (tallyAt (cell c (.inr (0, j))) () N)) ∗ ow c (oweFrom 2 c)) -∗ WP c k Q))
      ⊢ WP c (loop (bit (me c)) (send1Op c) 0 32 (by decide) k) Q := by
  rw [show oweFrom 1 c = oweFrom 2 c + ∑ j ∈ others c, oweOne 1 c j from oweFrom_step 1 c]
  iintro ⟨#HC, Ht, Ha, Hs, Ho, Hk⟩
  iapply (wp_loop c (ctx A K) (send1Op c) (fun j => iprop((dutyTok ER (cell c (.inr (0, j))) 0 j ∗ dutyTok ER (cell j (.inr (1, c))) 0 c) ∗ accP c j (A c) ∗ ∃ f, slotP j c f))
    (fun j => cred (tallyAt (cell c (.inr (0, j))) () N)) (ow c)
    (fun j => oweOne 1 c j) Q (oweFrom 2 c) (fun j hj s k => step_send1 A K c Q j hj s k) k)
  isplitr; · iexact HC
  isplitl [Ht Ha Hs]
  · iapply (Entails.of_eq (join _ _ _))
    isplitl [Ht]; · iexact Ht
    iapply (Entails.of_eq (join _ _ _))
    isplitl [Ha] <;> iassumption
  isplitl [Ho]; · iexact Ho
  iexact Hk

/-- The second transfers. -/
theorem run_send2 :
    iprop(ctx A K ∗ (bigSep (others c) fun j => iprop(dutyTok ER (cell c (.inr (2, j))) 0 j ∗ dutyTok ER (cell j (.inr (3, c))) 0 c))
        ∗ (bigSep (others c) fun j => redP c j (redC A c)) ∗ (bigSep (others c) fun j => iprop(∃ f, outP j c f)) ∗ ow c (oweFrom 2 c)
        ∗ (((bigSep (others c) fun j => cred (tallyAt (cell c (.inr (2, j))) () N)) ∗ ow c (oweFrom 3 c)) -∗ WP c k Q))
      ⊢ WP c (loop (bit (me c)) (send2Op c) 0 32 (by decide) k) Q := by
  rw [show oweFrom 2 c = oweFrom 3 c + ∑ j ∈ others c, oweOne 2 c j from oweFrom_step 2 c]
  iintro ⟨#HC, Ht, Ha, Hs, Ho, Hk⟩
  iapply (wp_loop c (ctx A K) (send2Op c) (fun j => iprop((dutyTok ER (cell c (.inr (2, j))) 0 j ∗ dutyTok ER (cell j (.inr (3, c))) 0 c) ∗ redP c j (redC A c) ∗ ∃ f, outP j c f))
    (fun j => cred (tallyAt (cell c (.inr (2, j))) () N)) (ow c)
    (fun j => oweOne 2 c j) Q (oweFrom 3 c) (fun j hj s k => step_send2 A K c Q j hj s k) k)
  isplitr; · iexact HC
  isplitl [Ht Ha Hs]
  · iapply (Entails.of_eq (join _ _ _))
    isplitl [Ht]; · iexact Ht
    iapply (Entails.of_eq (join _ _ _))
    isplitl [Ha] <;> iassumption
  isplitl [Ho]; · iexact Ho
  iexact Hk

/-- What a device holds of its DMA array `a` before its waits, from the credits and the positions. -/
theorem before_join (a : Fin 4) :
    iprop((bigSep (others c) fun j => cred (tallyAt (cell c (.inr (a, j))) () N)) ∗ bigSep (others c) fun j => atPos ER (cell c (.inr (a, j))) 0 ∅ 0)
      = (bigSep (others c) fun j => before c a j : sProp 𝕄) := join _ _ _

variable (x : Vec F S256x256 .bf16) (wg wu : Vec F S256x512 .bf16) (wd : Vec F S512x256 .bf16)

set_option maxHeartbeats 1600000 in
/-- The whole body. -/
theorem wp_prog (hA : A c = k0_pay1 x wg wu wd) :
    iprop(bodyFrom A K c x wg wu wd ∗ (bodyTo A c x wg wu wd -∗ Q ⟨⟩)) ⊢ WP c (progAt c) Q := by
  unfold bodyFrom toks creds ats bufs progAt
  rw [split_cells c]
  iintro ⟨⟨#HC, ⟨HtB, Ht1, Ht2, HtE⟩, ⟨HcB, Hc1, Hc3, HcE⟩,
    ⟨⟨HaB, HaE⟩, ⟨HaO0, Ha0⟩, ⟨HaO1, Ha1⟩, ⟨HaO2, Ha2⟩, ⟨HaO3, Ha3⟩⟩, ⟨⟨%fa, Hacc⟩, ⟨%fc, Hcomm⟩, ⟨%fr, Hred⟩, ⟨%fo, Hout⟩⟩, Hin, Ho⟩, Hk⟩
  -- the entry signals
  ihave Hcomm := (Entails.of_eq ((comm_blocks c fc).trans (split_own c _))) $$ Hcomm
  icases Hcomm with ⟨HsO, Hs⟩
  ihave Hout := (Entails.of_eq ((out_blocks c fo).trans (split_own c _))) $$ Hout
  icases Hout with ⟨HoO, Hos⟩
  iapply (run_enter A K c Q _ fc fo)
  isplitr; · iexact HC
  isplitl [HtB]; · iexact HtB
  isplitl [Hs]; · iexact Hs
  isplitl [Hos]; · iexact Hos
  isplitl [Ho]; · iexact Ho
  iintro Ho
  -- the partial product and the entry wait
  iapply (wp_compute c Q _ x wg wu wd barS fa)
  isplitl [Hin]; · iexact Hin
  isplitl [Hacc]; · iexact Hacc
  iintro ⟨Hin, Hacc⟩
  rw [← hA]
  iapply (step_gather A K c Q false 1 (Nat.le_refl 1))
  isplitr; · iexact HC
  isplitl [HcB HaB]
  · isplitl [HcB] <;> iassumption
  isplitl [Ho]; · iexact Ho
  iintro ⟨⟨HaB, Hpay⟩, Ho⟩
  ihave Hpay := (show (bigSep (others c) fun d => pay A c d (.inl false)) ⊢ iprop((bigSep (others c) fun d => iprop(∃ f, slotP d c f)) ∗ bigSep (others c) fun d => iprop(∃ f, outP d c f)) from
    Entails.of_eq (join _ _ _).symm) $$ Hpay
  icases Hpay with ⟨Hslots, Hrows⟩
  -- the first transfers and the own slot
  ihave Hacc := (Entails.of_eq ((acc_blocks c (A c)).trans (split_own c _))) $$ Hacc
  icases Hacc with ⟨HaccO, Haccs⟩
  iapply (run_send1 A K c Q)
  isplitr; · iexact HC
  isplitl [Ht1]; · iexact Ht1
  isplitl [Haccs]; · iexact Haccs
  isplitl [Hslots]; · iexact Hslots
  isplitl [Ho]; · iexact Ho
  iintro ⟨Hc0, Ho⟩
  iapply (wp_ownSlot A c Q _ fc)
  isplitl [HaccO]; · iexact HaccO
  isplitl [HsO]; · iexact HsO
  iintro ⟨HaccO, HsO⟩
  -- the first arrivals
  iapply (wp_loop_waits c (ctx A K) wait1Op (before c 1) (after A c 1) (ow c (oweFrom 2 c)) Q (fun j hj k => step_wait1 A K c Q 2 (Nat.le_refl 2) j hj k))
  isplitr; · iexact HC
  isplitl [Hc1 Ha1]
  · iapply (Entails.of_eq (before_join c 1))
    isplitl [Hc1] <;> iassumption
  isplitl [Ho]; · iexact Ho
  iintro ⟨Haft, Ho⟩
  ihave Haft := (Entails.of_eq (after_split A c 1)) $$ Haft
  icases Haft with ⟨Ha1, Hs⟩
  ihave Hcomm := (show iprop(slotP c c (commC A c) ∗ bigSep (others c) fun j => pay A c j (.inr (1, j))) ⊢ (((c : Thread nD τ).loc cc0_scratch1) ↦{fullShare} commC A c) from
    Entails.of_eq ((comm_blocks c (commC A c)).trans (split_own c _)).symm) $$ [HsO Hs]
  · isplitl [HsO] <;> iassumption
  -- the reduction
  iapply (wp_reduce A c Q _ fr fo)
  isplitl [Hcomm]; · iexact Hcomm
  isplitl [Hred]; · iexact Hred
  isplitl [HoO]; · iexact HoO
  iintro ⟨Hcomm, Hred, HoO⟩
  -- the second transfers
  ihave Hred := (Entails.of_eq ((red_shares c (redC A c)).trans (split_own c _))) $$ Hred
  icases Hred with ⟨HredO, Hreds⟩
  iapply (run_send2 A K c Q)
  isplitr; · iexact HC
  isplitl [Ht2]; · iexact Ht2
  isplitl [Hreds]; · iexact Hreds
  isplitl [Hrows]; · iexact Hrows
  isplitl [Ho]; · iexact Ho
  iintro ⟨Hc2, Ho⟩
  -- the second arrivals
  iapply (wp_loop_waits c (ctx A K) wait2Op (before c 3) (after A c 3) (ow c (oweFrom 3 c)) Q (fun j hj k => step_wait2 A K c Q 3 (Nat.le_refl 3) j hj k))
  isplitr; · iexact HC
  isplitl [Hc3 Ha3]
  · iapply (Entails.of_eq (before_join c 3))
    isplitl [Hc3] <;> iassumption
  isplitl [Ho]; · iexact Ho
  iintro ⟨Haft, Ho⟩
  ihave Haft := (Entails.of_eq (after_split A c 3)) $$ Haft
  icases Haft with ⟨Ha3, Hos⟩
  ihave Hout := (show iprop(outP c c (outC A) ∗ bigSep (others c) fun j => pay A c j (.inr (3, j))) ⊢ (((c : Thread nD τ).loc cc0_stg4_0) ↦{fullShare} outC A) from
    Entails.of_eq ((out_blocks c (outC A)).trans (split_own c _)).symm) $$ [HoO Hos]
  · isplitl [HoO] <;> iassumption
  -- both transfers have left
  iapply (wp_loop_waits c (ctx A K) (leftOp c) (fun j => iprop(before c 0 j ∗ before c 2 j)) (fun j => iprop(after A c 0 j ∗ after A c 2 j)) (ow c (oweFrom 3 c)) Q
    (fun j hj k => step_left A K c Q 3 j hj k))
  isplitr; · iexact HC
  isplitl [Hc0 Ha0 Hc2 Ha2]
  · iapply (Entails.of_eq (join _ _ _))
    isplitl [Hc0 Ha0]
    · iapply (Entails.of_eq (before_join c 0))
      isplitl [Hc0] <;> iassumption
    · iapply (Entails.of_eq (before_join c 2))
      isplitl [Hc2] <;> iassumption
  isplitl [Ho]; · iexact Ho
  iintro ⟨Haft, Ho⟩
  ihave Haft := (Entails.of_eq (join _ _ _).symm) $$ Haft
  icases Haft with ⟨Haft0, Haft2⟩
  ihave Haft0 := (Entails.of_eq (after_split A c 0)) $$ Haft0
  icases Haft0 with ⟨Ha0, Haccs⟩
  ihave Haft2 := (Entails.of_eq (after_split A c 2)) $$ Haft2
  icases Haft2 with ⟨Ha2, Hreds⟩
  ihave Hacc := (show iprop(accP c c (A c) ∗ bigSep (others c) fun j => pay A c j (.inr (0, j))) ⊢ (((c : Thread nD τ).loc cc0_scratch0) ↦{fullShare} A c) from
    Entails.of_eq ((acc_blocks c (A c)).trans (split_own c _)).symm) $$ [HaccO Haccs]
  · isplitl [HaccO] <;> iassumption
  ihave Hred := (show iprop(redP c c (redC A c) ∗ bigSep (others c) fun j => pay A c j (.inr (2, j))) ⊢ (((c : Thread nD τ).loc cc0_scratch2) ↦{fullShare} redC A c) from
    Entails.of_eq ((red_shares c (redC A c)).trans (split_own c _)).symm) $$ [HredO Hreds]
  · isplitl [HredO] <;> iassumption
  -- the exit handshake
  iapply (run_exit A K c Q)
  isplitr; · iexact HC
  isplitl [HtE]; · iexact HtE
  isplitl [Ho]; · iexact Ho
  iintro Ho
  rw [show (semWaitWord exitS 31#32 : P F PUnit.{1}) = (semWaitWord (regS true) 31#32 >>= fun _ => Prog.ret ⟨⟩) from rfl]
  iapply (step_gather A K c Q true 4 (Nat.le_refl 4))
  isplitr; · iexact HC
  isplitl [HcE HaE]
  · isplitl [HcE] <;> iassumption
  isplitl [Ho]; · iexact Ho
  iintro ⟨⟨HaE, -⟩, Ho⟩
  rw [oweFrom_end]
  imod (close A K c) $$ [HaB HaE HaO0 Ha0 HaO1 Ha1 HaO2 Ha2 HaO3 Ha3] with Hz
  · isplitr; · iexact HC
    unfold atsEnd
    rw [split_cells c]
    simp only [own_round]
    isplitl [HaB HaE]
    · isplitl [HaB]; · iexact HaB
      iexact HaE
    isplitl [HaO0 Ha0]
    · isplitl [HaO0] <;> iassumption
    isplitl [HaO1 Ha1]
    · isplitl [HaO1] <;> iassumption
    isplitl [HaO2 Ha2]
    · isplitl [HaO2] <;> iassumption
    · isplitl [HaO3] <;> iassumption
  rw [wp_ret]
  imodintro
  iapply Hk
  unfold bodyTo bufsEnd
  isplitl [Hz]; · iexact Hz
  isplitl [Hacc Hcomm Hred Hout]
  · isplitl [Hacc]; · iexact Hacc
    isplitl [Hcomm]; · iexact Hcomm
    isplitl [Hred] <;> iassumption
  isplitl [Hin] <;> iassumption

end Prog

end Cert.Run

end
-- ==== Proof.Deal.lean ====
/-
# Dealing the tokens and the credits

At the launch each semaphore's tokens are minted with the device that owns it, while a device needs the tokens of the
duties it pays, most of them on other devices' semaphores; and what the devices owe is summed semaphore by semaphore
into the credits of their owners. Both are the exchange of the two sums over pairs of different devices.
-/
module

public import proofs.«01_k».proof.Proof.Body

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The launch element -/

/-- All the protocol's semaphores. -/
def allCells : Finset (GSem nD τ sig) := Finset.univ.map ⟨fun x : Dev nD × CI => cell x.1 x.2, cell_injective⟩

/-- A token for every semaphore and every device: those named by no duty go unused. -/
abbrev tokOf (x : Dev nD × CI × Dev nD) : GSem nD τ sig × ℕ × Dev nD := (cell x.1 x.2.1, 0, x.2.2)
/-- Different duties have different tokens. -/
theorem tokOf_injective : Function.Injective tokOf := by
  rintro ⟨c, ci, d⟩ ⟨c', ci', d'⟩ h
  have h1 : ((c, ci) : Dev nD × CI) = (c', ci') := cell_injective (congrArg (fun x : GSem nD τ sig × ℕ × Dev nD => x.1) h)
  have h2 : d = d' := congrArg (fun x : GSem nD τ sig × ℕ × Dev nD => x.2.2) h
  obtain ⟨rfl, rfl⟩ := Prod.mk.inj h1
  rw [h2]
/-- Every duty token of the protocol. -/
def allToks : Finset (GSem nD τ sig × ℕ × Dev nD) := Finset.univ.map ⟨tokOf, tokOf_injective⟩

/-- The ghost state at launch: the staging cells and the protocol cells, with their tokens. -/
def u₀ : UU := (initOf (Pipeline.cells cfgs cellOf_inj) (Pipeline.launchToks cfgs cellOf_inj), initOf allCells allToks)

section Deal
variable (A : Dev nD → Vec F S256x256 .f32)

/-- Every token minted on device `c`'s semaphores. -/
def minted (c : Dev nD) : sProp 𝕄 := bigSep Finset.univ fun ci => bigSep Finset.univ fun d => dutyTok ER (cell c ci) 0 d

/-- What the launch element deals a device. -/
def dealt (c : Dev nD) : sProp 𝕄 :=
  iprop((bigSep Finset.univ fun ci => roundState ER (Rd A) (cell c ci) 0)
    ∗ (ats c ∗ bigSep Finset.univ fun ci => reached ER (cell c ci) 0) ∗ minted c)

/-- The protocol's ghost state, dealt to the devices. -/
theorem fund_all : BI.own (ER (initOf allCells allToks)) ⊢ (|==> bigSep Finset.univ (dealt A) : sProp 𝕄) := by
  have hX (Φ : GSem nD τ sig → sProp 𝕄) : bigSep allCells Φ = bigSep Finset.univ fun c : Dev nD => bigSep Finset.univ fun ci : CI => Φ (cell c ci) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]
    exact bigSep_congr fun c _ => bigSep_univ_prod _
  iintro HX
  imod (Rounds.fund ER (Rd A) allCells allToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt ats; simp only [bigSep_sep']
  isplitl [Hst']; · iexact Hst'
  isplitl [Hat' Hr']
  · isplitl [Hat'] <;> iassumption
  iexact Htok'

/-! ## The tokens -/

/-- The tokens of the barrier (`false`) or exit (`true`) semaphore, at their owner. -/
theorem minted_reg (c : Dev nD) (b : Bool) : (bigSep Finset.univ fun d => dutyTok ER (cell c (.inl b)) 0 d : sProp 𝕄)
    ⊢ bigSep (others c) fun d => dutyTok ER (cell c (.inl b)) 0 d := by
  rw [split_own c]
  iintro ⟨-, H⟩; iexact H

/-- The tokens of a DMA array, at their owner. -/
theorem minted_dma (c : Dev nD) (a : Fin 4) :
    (iprop((bigSep Finset.univ fun d => dutyTok ER (cell c (.inr (a, c))) 0 d) ∗ bigSep (others c) fun j => bigSep Finset.univ fun d => dutyTok ER (cell c (.inr (a, j))) 0 d) : sProp 𝕄)
    ⊢ bigSep (others c) fun j => dutyTok ER (cell c (.inr (a, j))) 0 j := by
  iintro ⟨-, H⟩
  iapply (show (bigSep (others c) fun j => bigSep Finset.univ fun d => dutyTok ER (cell c (.inr (a, j))) 0 d) ⊢ (bigSep (others c) fun j => dutyTok ER (cell c (.inr (a, j))) 0 j : sProp 𝕄) from
    bigSep_mono fun j _ => bigSep_elim (Finset.mem_univ j))
  iexact H

/-- The tokens of a device's duties, by their owner. -/
def named (c : Dev nD) : sProp 𝕄 :=
  iprop((bigSep (others c) fun d => dutyTok ER (cell c (.inl false)) 0 d)
    ∗ (bigSep (others c) fun d => dutyTok ER (cell c (.inl true)) 0 d)
    ∗ (bigSep (others c) fun j => dutyTok ER (cell c (.inr (0, j))) 0 j)
    ∗ (bigSep (others c) fun j => dutyTok ER (cell c (.inr (1, j))) 0 j)
    ∗ (bigSep (others c) fun j => dutyTok ER (cell c (.inr (2, j))) 0 j)
    ∗ bigSep (others c) fun j => dutyTok ER (cell c (.inr (3, j))) 0 j)

/-- What is minted for a device, sorted into the names of the body's context. -/
theorem minted_named (c : Dev nD) : (minted c : sProp 𝕄) ⊢ named c := by
  unfold minted named
  rw [split_cells c]
  iintro ⟨⟨HB, HE⟩, H0, H1, H2, H3⟩
  isplitl [HB]; · iapply (minted_reg c false); iexact HB
  isplitl [HE]; · iapply (minted_reg c true); iexact HE
  isplitl [H0]; · iapply (minted_dma c 0); iexact H0
  isplitl [H1]; · iapply (minted_dma c 1); iexact H1
  isplitl [H2]; · iapply (minted_dma c 2); iexact H2
  iapply (minted_dma c 3); iexact H3

/-- The tokens dealt to the devices that pay with them. -/
theorem named_toks : (bigSep Finset.univ fun c : Dev nD => (named c : sProp 𝕄)) ⊢ bigSep Finset.univ fun c : Dev nD => toks c := by
  unfold named toks
  simp only [bigSep_sep']
  rw [bigSep_erase_comm (fun c d : Dev nD => (dutyTok ER (cell c (.inl false)) 0 d : sProp 𝕄)),
    bigSep_erase_comm (fun c d : Dev nD => (dutyTok ER (cell c (.inl true)) 0 d : sProp 𝕄)),
    bigSep_erase_comm (fun c j : Dev nD => (dutyTok ER (cell c (.inr (1, j))) 0 j : sProp 𝕄)),
    bigSep_erase_comm (fun c j : Dev nD => (dutyTok ER (cell c (.inr (3, j))) 0 j : sProp 𝕄))]
  iintro ⟨HB, HE, H0, H1, H2, H3⟩
  isplitl [HB]; · iexact HB
  isplitl [H0 H1]
  · isplitl [H0] <;> iassumption
  isplitl [H2 H3]
  · isplitl [H2] <;> iassumption
  iexact HE

/-! ## The credits -/

/-- What the others owe device `c` in phase `p`. -/
def dueAll (p : Fin 4) (c : Dev nD) : CellTallies nD τ sig Unit := ∑ s ∈ others c, oweOne p s c
/-- What the others owe device `c`. -/
def due (c : Dev nD) : CellTallies nD τ sig Unit := ∑ p : Fin 4, dueAll p c

/-- A double sum over pairs of different devices, read either way. -/
theorem sum_swap {M : Type} [AddCommMonoid M] (f : Dev nD → Dev nD → M) :
    ∑ c, ∑ j ∈ others c, f c j = ∑ j, ∑ c ∈ others j, f c j :=
  Finset.sum_comm' fun x y => by
    simp only [Finset.mem_univ, Finset.mem_erase, true_and, and_true]; exact ne_comm

/-- What all devices owe is what all cells are due. -/
theorem sum_owed : ∑ c, oweFrom 0 c = ∑ c, due c := by
  unfold oweFrom due
  rw [Finset.filter_true_of_mem fun _ _ => Nat.zero_le _, Finset.sum_comm, Finset.sum_comm (s := (Finset.univ : Finset (Dev nD)))]
  exact Finset.sum_congr rfl fun p _ => sum_swap fun c j => oweOne p c j

/-- What is due to a device is due on its own cells. -/
theorem due_own (c : Dev nD) (g : GSem nD τ sig) (h : due c g ≠ 0) : g.1 = (c : Thread nD τ) := by
  by_contra hn
  refine h ?_
  unfold due dueAll
  rw [Finset.sum_apply]
  refine Finset.sum_eq_zero fun p _ => ?_
  rw [Finset.sum_apply]
  exact Finset.sum_eq_zero fun s _ => tallyAt_ne_cell (fun e => hn (congrArg Prod.fst e)) _ _

/-- As many units on one cell as there are payers. -/
theorem sum_units (g : GSem nD τ sig) (s : Finset (Dev nD)) : ∑ _i ∈ s, (tallyAt g () 1 : CellTallies nD τ sig Unit) = tallyAt g () s.card := by
  induction s using Finset.induction_on with
  | empty => rw [Finset.sum_empty, Finset.card_empty]; exact (tallyAt_zero g ()).symm
  | insert a s ha ih => rw [Finset.sum_insert ha, ih, tallyAt_add, Finset.card_insert_of_notMem ha, Nat.add_comm]

/-- The launch's credits are the credits that the body's waits use. -/
theorem creds_intro (c : Dev nD) : (Pipeline.launchCred (oweFrom 0) c : sProp 𝕄) ⊢ creds c := by
  rw [Pipeline.launchCred_of_sum (oweFrom 0) due sum_owed due_own c]
  unfold due creds
  rw [Pipeline.cred_finsetSum, bigSep_arr,
    show dueAll 0 c = tallyAt (cell c (.inl false)) () 31 from (sum_units (cell c (.inl false)) (others c)).trans (by rw [card_others]),
    show dueAll 3 c = tallyAt (cell c (.inl true)) () 31 from (sum_units (cell c (.inl true)) (others c)).trans (by rw [card_others]),
    show (cred (dueAll 1 c) : sProp 𝕄) = bigSep (others c) fun s => cred (tallyAt (cell c (.inr (1, s))) () N) from Pipeline.cred_finsetSum _ _,
    show (cred (dueAll 2 c) : sProp 𝕄) = bigSep (others c) fun s => cred (tallyAt (cell c (.inr (3, s))) () N) from Pipeline.cred_finsetSum _ _]

end Deal

end Cert.Run

end
-- ==== Proof.Run.lean ====
/-
# The run of the whole program

From any memory with zero counters, every weakly fair execution on the 32 devices ends, with each device's result array at
the reduced sum of the devices' partial products, its arguments unchanged, and every counter at zero (`run_main`).
The theorem is for any float values; both frame claims and the value claim take it.
-/
module

public import proofs.«01_k».proof.Proof.Deal
public import proofs.«01_k».proof.Proof.Gen.KernelIdeal.Points

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The contents -/

/-- The four inputs as staged on device `c`. -/
def xAt (c : Dev nD) : Vec F S256x256 .bf16 := (win0_0.blk (0 : Fin 1)).view.read (Elt F) (m ((c : Thread nD τ).loc main_arg0))
/-- The gate weights as staged. -/
def wgAt (c : Dev nD) : Vec F S256x512 .bf16 := (win0_1.blk (0 : Fin 1)).view.read (Elt F) (m ((c : Thread nD τ).loc main_arg1))
/-- The up weights as staged. -/
def wuAt (c : Dev nD) : Vec F S256x512 .bf16 := (win0_2.blk (0 : Fin 1)).view.read (Elt F) (m ((c : Thread nD τ).loc main_arg2))
/-- The down weights as staged. -/
def wdAt (c : Dev nD) : Vec F S512x256 .bf16 := (win0_3.blk (0 : Fin 1)).view.read (Elt F) (m ((c : Thread nD τ).loc main_arg3))

/-- Each device's partial product. -/
def part (c : Dev nD) : Vec F S256x256 .f32 := k0_pay1 (xAt m c) (wgAt m c) (wuAt m c) (wdAt m c)

/-! ## The pipeline's data -/

/-- What the launch gives a device beside its memory. -/
def start (c : Dev nD) : sProp 𝕄 := iprop((∃ K, recs (part m) K ∗ toks c ∗ ats c) ∗ creds c ∗ levAts L lv)

/-- The three scratch buffers at whatever contents. -/
def scratch (c : Dev nD) : sProp 𝕄 :=
  iprop((∃ f : Vec F S256x256 .f32, ((c : Thread nD τ).loc cc0_scratch0) ↦{fullShare} f)
    ∗ (∃ f : Vec F S32x8x256 .f32, ((c : Thread nD τ).loc cc0_scratch1) ↦{fullShare} f)
    ∗ (∃ f : Vec F S8x256 .f32, ((c : Thread nD τ).loc cc0_scratch2) ↦{fullShare} f))

/-- A device's state before the body. -/
def Φ₀ (c : Dev nD) : sProp 𝕄 := iprop(start m c ∗ scratch c)
/-- A device's state after the body. -/
def Φ₁ (c : Dev nD) : sProp 𝕄 := iprop(zeros c ∗ scratch c)

/-- The windows' contents before and after the one point, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wgAt m c
    | ⟨2, _⟩ => wuAt m c
    | ⟨3, _⟩ => wdAt m c
    | ⟨4, _⟩ => outC (part m)
  Φ t := match t with
    | ⟨0, _⟩ => Φ₀ m c
    | ⟨_ + 1, _⟩ => Φ₁ c
  q _ := fullShare
  owed t := match t with
    | ⟨0, _⟩ => oweFrom 0 c
    | ⟨_ + 1, _⟩ => 0

/-- Five windows. -/
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

/-- A whole buffer owned at contents is its points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- The staging buffer of a window, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, window by window. -/
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What the body ends with, window by window. -/
def bodyPost (c : Dev nD) : sProp 𝕄 :=
  iprop(Φ₁ c ∗ (dats m ρ 0 c).owesAt () t0_0.succ ∗ stg c cc0_stg0_0 (xAt m c) ∗ stg c cc0_stg1_0 (wgAt m c)
    ∗ stg c cc0_stg2_0 (wuAt m c) ∗ stg c cc0_stg3_0 (wdAt m c) ∗ stg c cc0_stg4_0 (outC (part m)))

/-- The input windows arrive with the arrays' contents. -/
theorem before_x (c : Dev nD) (d) : (dats m ρ 0 c).before (0 : Fin 5) t0_0 d = xAt m c := by
  unfold Dat.before; rw [if_pos (fetch0_0 t0_0)]; rfl
/-- The gate window arrives with its array's contents. -/
theorem before_wg (c : Dev nD) (d) : (dats m ρ 0 c).before (1 : Fin 5) t0_0 d = wgAt m c := by
  unfold Dat.before; rw [if_pos (fetch0_1 t0_0)]; rfl
/-- The up window arrives with its array's contents. -/
theorem before_wu (c : Dev nD) (d) : (dats m ρ 0 c).before (2 : Fin 5) t0_0 d = wuAt m c := by
  unfold Dat.before; rw [if_pos (fetch0_2 t0_0)]; rfl
/-- The down window arrives with its array's contents. -/
theorem before_wd (c : Dev nD) (d) : (dats m ρ 0 c).before (3 : Fin 5) t0_0 d = wdAt m c := by
  unfold Dat.before; rw [if_pos (fetch0_3 t0_0)]; rfl

/-- The body meets its pre- and postcondition on every device. -/
theorem sound_body (c : Dev nD) : bodyPre m ρ c ⊢ WP c (theBody (F := F)) fun _ => bodyPost m ρ c := by
  rw [body_eq]
  show _ ⊢ wp frame (wpE (defs₀ (F := F)) 𝒱₀ (c : Thread nD τ) none) Set.univ _ _
  simp only [wp_deviceId]
  unfold bodyPre Φ₀ start scratch Dat.owesAt Pipeline.owesWithin
  iintro ⟨⟨⟨⟨%K, Hre, Htok, Hat⟩, Hcr, Hlev⟩, Hb0, Hb1, Hb2⟩, ⟨%W, %hW, HO⟩, ⟨%d0, %g0, %h0, Hx⟩, ⟨%d1, %g1, %h1, Hwg⟩, ⟨%d2, %g2, %h2, Hwu⟩, ⟨%d3, %g3, %h3, Hwd⟩, ⟨%d4, %g4, %h4, Hout⟩⟩
  rw [before_x] at h0; rw [before_wg] at h1; rw [before_wu] at h2; rw [before_wd] at h3
  subst h0 h1 h2 h3
  rw [show (dats m ρ 0 c).owed t0_0.castSucc = oweFrom 0 c from rfl]
  iapply (wp_prog (part m) K c (fun _ => bodyPost m ρ c) (xAt m c) (wgAt m c) (wuAt m c) (wdAt m c) rfl)
  isplitr []
  · unfold bodyFrom ctx bufs ins ow
    isplitl [Hre Hlev]
    · isplitl [Hre] <;> iassumption
    isplitl [Htok]; · iexact Htok
    isplitl [Hcr]; · iexact Hcr
    isplitl [Hat]; · iexact Hat
    isplitl [Hb0 Hb1 Hb2 Hout]
    · isplitl [Hb0]; · iexact Hb0
      isplitl [Hb1]; · iexact Hb1
      isplitl [Hb2]; · iexact Hb2
      iexists g4; iexact Hout
    isplitl [Hx Hwg Hwu Hwd]
    · isplitl [Hx]; · iexact Hx
      isplitl [Hwg]; · iexact Hwg
      isplitl [Hwu] <;> iassumption
    iexists W; iexact HO
  · unfold bodyTo bufsEnd ins ow bodyPost Φ₁ scratch Dat.owesAt Pipeline.owesWithin
    rw [show (dats m ρ 0 c).owed t0_0.succ = 0 from rfl]
    iintro ⟨Hz, ⟨Hb0, Hb1, Hb2, Hout⟩, ⟨Hx, Hwg, Hwu, Hwd⟩, ⟨%W', HO⟩⟩
    isplitl [Hz Hb0 Hb1 Hb2]
    · isplitl [Hz]; · iexact Hz
      isplitl [Hb0]; · iexists _; iexact Hb0
      isplitl [Hb1]; · iexists _; iexact Hb1
      iexists _; iexact Hb2
    isplitl [HO]
    · iexists W'
      isplitr; · ipureintro; exact fun _ _ => Or.inl trivial
      iexact HO
    isplitl [Hx]
    · iexists _; isplitr; · (ipureintro; rfl)
      iexact Hx
    isplitl [Hwg]
    · iexists _; isplitr; · (ipureintro; rfl)
      iexact Hwg
    isplitl [Hwu]
    · iexists _; isplitr; · (ipureintro; rfl)
      iexact Hwu
    isplitl [Hwd]
    · iexists _; isplitr; · (ipureintro; rfl)
      iexact Hwd
    iexists _; isplitr; · (ipureintro; rfl)
    iexact Hout

set_option maxRecDepth 8000 in
/-- The pipeline's obligation on each device. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

/-- The semaphores the launch scopes to the kernel: all of the protocol's but the entry barrier. -/
def osem (k : Unit ⊕ Fin 4 × Fin 32) : SemLoc sig := csem (k.elim (fun _ => .inl true) .inr)

/-- The scoped semaphores are different. -/
theorem osem_inj : Function.Injective osem := fun k k' h => by
  have := csem_injective h
  rcases k with _ | p <;> rcases k' with _ | p'
  · rfl
  · cases this
  · cases this
  · exact congrArg Sum.inr (Sum.inr.inj this)

/-- The scoped semaphores are scoped, different, and not the pipeline's. -/
theorem ownSemFacts : Pipeline.OwnSemFacts cfg0.spec osem where
  isScoped := by decide +kernel
  inj := osem_inj
  disj := by decide +kernel

/-- Every window is held whole. -/
theorem share_eq (c : Dev nD) (w : Fin cfg0.W) : (dats m ρ 0 c).share w = fullShare := by unfold Dat.share; split <;> rfl

/-- The one semaphore that is not scoped is the barrier. -/
theorem unscoped_eq (c : Dev nD) : (unscopedSems0 c : sProp 𝕄) = semVal (cell c (.inl false)) 0 := by
  unfold unscopedSems0; rw [bigSep_eq_bigSepL_of_eq [SemLoc.reg barS] (by decide) (by decide)]; rfl

/-- A device's counters: the scoped ones and the barrier. -/
theorem zeros_eq (c : Dev nD) :
    (zeros c : sProp 𝕄) = iprop((semVal (cell c (.inl false)) 0 ∗ semVal (cell c (.inl true)) 0) ∗ bigSep Finset.univ fun p => semVal (cell c (.inr p)) 0) := by
  unfold zeros; rw [bigSep_univ_sum, bigSep_bool]; rfl
/-- The scoped semaphores, as exit semaphore and copy semaphores. -/
theorem own_eq (c : Dev nD) :
    (Pipeline.ownSems0 (Ix := Unit) (Name := ℕ) (U := UU) (Lvl := ℕ) (Val := Elt F) (τ := τ) osem c : sProp 𝕄)
      = iprop(semVal (cell c (.inl true)) 0 ∗ bigSep Finset.univ fun p => semVal (cell c (.inr p)) 0) := by
  unfold Pipeline.ownSems0; rw [bigSep_univ_sum, Finset.univ_unique, bigSep_singleton]; rfl

/-- A device's counters, split into unscoped and scoped. -/
theorem zeros_split (c : Dev nD) :
    (zeros c : sProp 𝕄) ⊢ iprop(unscopedSems0 c ∗ Pipeline.ownSems0 (Ix := Unit) (Name := ℕ) (U := UU) (Lvl := ℕ) (Val := Elt F) (τ := τ) osem c) := by
  rw [zeros_eq, unscoped_eq, own_eq]
  iintro ⟨⟨HB, HE⟩, HD⟩
  isplitl [HB]; · iexact HB
  isplitl [HE] <;> iassumption
/-- A device's counters, put together from unscoped and scoped. -/
theorem zeros_join (c : Dev nD) :
    iprop(Pipeline.ownSems0 (Ix := Unit) (Name := ℕ) (U := UU) (Lvl := ℕ) (Val := Elt F) (τ := τ) osem c ∗ unscopedSems0 c) ⊢ (zeros c : sProp 𝕄) := by
  rw [zeros_eq, unscoped_eq, own_eq]
  iintro ⟨⟨HE, HD⟩, HB⟩
  isplitl [HB HE]
  · isplitl [HB] <;> iassumption
  iexact HD

section Glob
variable (A : Dev nD → Vec F S256x256 .f32)

/-- A device's invariants are allocated from its counters and the round states. -/
theorem core_alloc (c : Dev nD) :
    iprop(Pipeline.ownSems0 (Ix := Unit) (Name := ℕ) (U := UU) (Lvl := ℕ) (Val := Elt F) (τ := τ) osem c ∗ unscopedSems0 c ∗ dealt A c)
      ⊢ |={Set.univ}=> iprop((bigSep Finset.univ fun ci => iprop(∃ κ : ℕ, cellInv ER (Rd A) κ (cell c ci)))
          ∗ (bigSep Finset.univ fun ci => reached ER (cell c ci) 0) ∗ ats c ∗ named c) := by
  unfold dealt
  iintro ⟨Hos, Hus, Hst, ⟨Hat, Hre⟩, Htok⟩
  ihave Hv := (zeros_join (F := F) c) $$ [Hos Hus]
  · isplitl [Hos] <;> iassumption
  imod (show iprop(zeros c ∗ bigSep Finset.univ fun ci => roundState ER (Rd A) (cell c ci) 0)
      ⊢ (|={Set.univ}=> bigSep Finset.univ fun ci => iprop(∃ κ : ℕ, cellInv ER (Rd A) κ (cell c ci)) : sProp 𝕄) from by
        unfold zeros; rw [join]
        exact (bigSep_mono fun ci _ => (Rounds.body_intro ER (Rd A) (cell c ci)).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  iapply (minted_named c); iexact Htok

/-- What is the same for every device goes to each of them. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the launch's global step makes of it. -/
def given (c : Dev nD) : sProp 𝕄 := iprop(∃ K, recs A K ∗ toks c ∗ ats c)

/-- The devices' shares of the ghost state, regrouped device by device. -/
theorem regroup :
    (bigSep Finset.univ fun c : Dev nD => iprop((bigSep Finset.univ fun ci => iprop(∃ κ : ℕ, cellInv ER (Rd A) κ (cell c ci)))
          ∗ (bigSep Finset.univ fun ci => reached ER (cell c ci) 0) ∗ ats c ∗ named c) : sProp 𝕄)
      ⊢ bigSep Finset.univ (given A) := by
  rw [bigSep_sep', bigSep_sep', bigSep_sep', ← bigSep_univ_prod (fun x : Dev nD × CI => iprop(∃ κ : ℕ, cellInv ER (Rd A) κ (cell x.1 x.2))),
    ← bigSep_univ_prod (fun x : Dev nD × CI => (reached ER (cell x.1 x.2) 0 : sProp 𝕄))]
  iintro ⟨HI, HR, Hat, Htok⟩
  ihave HK := (BI.bigSep_exists_pi Finset.univ (fun (x : Dev nD × CI) (κ : ℕ) => (cellInv ER (Rd A) κ (cell x.1 x.2) : sProp 𝕄))) $$ HI
  icases HK with ⟨%K, HI⟩
  ihave Htk := (named_toks (F := F)) $$ Htok
  iapply (with_persistent (R := recs A K) (Φ := fun c => iprop(toks c ∗ ats c)) fun c _ => by
    show _ ⊢ given A c
    unfold given
    iintro ⟨HR, HT⟩
    iexists K
    isplitl [HR] <;> iassumption)
  isplitl [HI HR]
  · unfold recs
    iapply (Entails.of_eq (join _ _ _))
    isplitl [HI] <;> iassumption
  · iapply (Entails.of_eq (join _ _ _))
    isplitl [Htk] <;> iassumption

/-- The global step: with every counter at zero, all cells' invariants are made and each device gets its share. -/
theorem glob : (bigSep Finset.univ fun c => iprop(Pipeline.ownSems0 (Ix := Unit) (Name := ℕ) (U := UU) (Lvl := ℕ) (Val := Elt F) (τ := τ) osem c ∗ unscopedSems0 c ∗ dealt A c) : sProp 𝕄)
    ⊢ |={Set.univ}=> bigSep Finset.univ (given A) :=
  ((bigSep_mono fun c _ => core_alloc A c).trans (bigSep_fupd _ _)).trans (BI.fupd_mono (regroup A))

end Glob

/-! ### The side conditions -/

/-- What the launch leaves a device is its start. -/
theorem start_intro (c : Dev nD) :
    iprop(Pipeline.unscopedRestP Pipeline.Prefetch.none cfg0.spec c (fun b => m ((c : Thread nD τ).loc b)) ∗ levAts L lv
        ∗ Pipeline.launchCred (oweFrom 0) c ∗ prngReg c (ρ c) ∗ given (part m) c)
      ⊢ |={Set.univ}=> iprop(start m c ∗ emp) := by
  iintro ⟨-, Hlev, Hcr, -, HG⟩
  ihave Hc := (creds_intro (F := F) c) $$ Hcr
  imodintro
  unfold start given
  isplitl
  · isplitl [HG]; · iexact HG
    isplitl [Hc] <;> iassumption
  · iempintro

/-- The start and the scratch buffers are the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- The state after the body gives the counters and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hz, Hr⟩
  ihave Hz := (zeros_split (F := F) c) $$ Hz
  icases Hz with ⟨HU, HO⟩
  isplitl [HU]; · iexact HU
  isplitl [HO] <;> iassumption

/-- The staging semaphores are below every level. -/
theorem stage_level : ∀ (w : Fin cfg0.W) (s : Fin (cfg0.win w).nbuf), decode (.dma ((cfg0.win w).sem s)) = none := by decide +kernel

/-- The pipeline may wait on its staging semaphores. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (Nat.le_of_eq (by dsimp only [lv]; rw [stage_level w s]; rfl))
    · rw [show (dats m ρ 0 c).owed ⟨_ + 1, ht⟩ = 0 from rfl, MayWait_zero]
      iintro -; iempintro

/-! ### The run -/

/-- A window's array after the run. -/
def finalA (c : Dev nD) (w : Fin cfg0.W) : Buf (Elt F) ((cfg0.win w).arr.view.loc (c : Thread nD τ)) := (dats m ρ 0 c).arrAt w cfg0.N

/-- Every array at its final contents on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution ends, every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweFrom 0) (howed₀ := fun _ => rfl) (howedN := fun _ => rfl)
    (L := L) (lv := lv) (hL := L_of_ne) (hwaits := waits m ρ)
    (G := dealt (part m)) (G' := given (part m)) (u₀ := u₀)
    (hu₀ := by
      unfold u₀
      iintro Hu
      ihave H := (ownU_pair _ _) $$ Hu
      icases H with ⟨HP, HX⟩
      imod (fund_all (part m)) $$ HX with HG
      imodintro
      isplitl [HP] <;> iassumption)
    (hglob := glob (part m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are unchanged. -/
theorem final_in (c : Dev nD) (w : Fin cfg0.W) (h : (cfg0.win w).isOut = false) :
    finalA m ρ c w = m ((cfg0.win w).arr.view.loc (c : Thread nD τ)) :=
  (dats (F := F) m ρ 0 c).arrAt_in w h _

end Cert.Run

end
-- ==== Proof.Frames.lean ====
/-
# The three frames

Every program ends with its arguments unchanged and every counter at zero. The kernel as compiled has the same text as the
kernel over the extended reals, so one run (`Cert.Run.run_main`) serves both.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Run

open Idealize.ShloMosaic Idealize.SL.Sem Cert.KernelIdeal

/-- What both kernel frames say: the arguments end as they were, the counters at zero; for any float values. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h =>
      ⟨fun c => ⟨(h.1 c (0 : Fin 5)).trans (final_in m ρ c 0 rfl), (h.1 c (1 : Fin 5)).trans (final_in m ρ c 1 rfl),
        (h.1 c (2 : Fin 5)).trans (final_in m ρ c 2 rfl), (h.1 c (3 : Fin 5)).trans (final_in m ρ c 3 rfl)⟩, h.2⟩)
    (run_main m ρ)

/-- The kernel over the extended reals keeps its arguments and ends with every counter at zero. -/
theorem frame_kernelIdeal : Cert.quiescent_KernelIdeal := fun m ρ _ => frame_run (F := Ideal) m ρ

/-- The compiled kernel's body table is the same text. -/
theorem bodies_eq {F : FTy → Type} [FloatOps F] : @Cert.Kernel.defs₀ F _ _ = @Cert.KernelIdeal.defs₀ F _ _ := by
  refine congrArg Defs.onTc (funext fun l => ?_)
  match l with
  | 0 => exact funext fun ⟨_, _⟩ => rfl
  | ⟨_ + 1, h⟩ => exact absurd h (Nat.not_lt.2 (Nat.le_add_left _ _))

/-- So is the table with the pipeline. -/
theorem defs_eq {F : FTy → Type} [FloatOps F] : @Cert.Kernel.defs F _ _ = @Cert.KernelIdeal.defs F _ _ :=
  congrArg (Pipeline.defs Cert.KernelIdeal.pcfgs) bodies_eq

/-- The kernel as it is compiled keeps its arguments and ends with every counter at zero: its text is the same. -/
theorem frame_kernel : Cert.quiescent_Kernel := fun m ρ _ => by
  rw [defs_eq]
  exact frame_run (F := Bits) m ρ

/-- The reference keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Run

end
-- ==== Proof.Value.lean ====
/-
# The values over the extended reals

What a device's partial product and the reduced result are at an index, what the reference's result is there, and that
the two agree when every device holds its block of the weights.
-/
module

public import proofs.«01_k».proof.Proof.Frames
public import Idealize.ShloMosaic.Lib.MatmulPlain
public import Idealize.ShloMosaic.Lib.StackMember
public import Idealize.ShloMosaic.Lib.IdealHost
public import Idealize.ShloMosaic.Lib.Layout
public import Idealize.ShloMosaic.Lib.ValueIdx

@[expose] public section

noncomputable section

namespace Cert.Run

open Cert.KernelIdeal Cert.KernelIdeal.Gen
open Idealize.ShloMosaic Idealize.ShloMosaic.TcCoe Idealize.SL.Sem

/-! ## The gated unit -/

/-- `e^x` is not negative. -/
theorem exp_nonneg (x : EReal) : 0 ≤ Ideal.exp x := by
  induction x using EReal.rec with
  | bot => simp
  | top => simp
  | coe r => rw [Ideal.exp_coe]; exact_mod_cast (Real.exp_pos r).le

/-- One plus `e^x` is not zero. -/
theorem one_add_exp_ne_zero (x : EReal) : 1 + Ideal.exp x ≠ 0 :=
  (lt_of_lt_of_le zero_lt_one (le_add_of_nonneg_right (exp_nonneg x))).ne'

/-- `x · logistic x` is `x / (1 + e^(-x))`, on all the extended reals. -/
theorem mul_logistic (x : EReal) : x * Ideal.logistic x = Ideal.div x (1 + Ideal.exp (-x)) :=
  Ideal.mul_one_div (one_add_exp_ne_zero _)

/-- The hidden value from the two projections. -/
def gated (g u : EReal) : EReal := g * Ideal.div u (1 + Ideal.exp (-u))

/-- A projection at row `i` and column `k`. -/
def proj {n : ℕ} (x : (⟨2, ![256, 256]⟩ : Shape).Idx → EReal) (w : (⟨2, ![256, n]⟩ : Shape).Idx → EReal) (i : Fin 256) (k : Fin n) : EReal :=
  ∑ l : Fin 256, x (ValueIdx.ix2 i l) * w (ValueIdx.ix2 l k)

/-- The gated product over `n` hidden columns, at row `i` and column `j`. -/
def mlp {n : ℕ} (x : (⟨2, ![256, 256]⟩ : Shape).Idx → EReal) (wg wu : (⟨2, ![256, n]⟩ : Shape).Idx → EReal)
    (wd : (⟨2, ![n, 256]⟩ : Shape).Idx → EReal) (i j : Fin 256) : EReal :=
  ∑ k : Fin n, gated (proj x wg i k) (proj x wu i k) * wd (ValueIdx.ix2 k j)

/-! ## The kernel's side -/

/-- A device's partial product. -/
theorem pay1_apply (x : Vec Ideal S256x256 .bf16) (wg wu : Vec Ideal S256x512 .bf16) (wd : Vec Ideal S512x256 .bf16) (i j : Fin 256) :
    (k0_pay1 (F := Ideal) x wg wu wd) (ValueIdx.ix2 i j) = mlp x wg wu wd i j := by
  unfold k0_pay1
  simp only [shapeCast_self]
  rw [show dot_S256x512_S512x256_S256x256_1_0_0_1_n_n = DotDims.plain 256 512 256 from rfl,
    show dot_S256x256_S256x512_S256x512_1_0_0_1_n_n = DotDims.plain 256 256 512 from rfl]
  refine (Ideal.matmul_plain_apply none _ _ _ i j).trans ?_
  rw [ValueIdx.constant_apply, Ideal.ofBits_zero_f32, zero_add]
  have hp : ∀ (w : Vec Ideal S256x512 .bf16) (k : Fin 512),
      matmul (F := Ideal) (DotDims.plain 256 256 512) none x w (constant S256x512 .f32 0x00000000#32) (ValueIdx.ix2 i k) = proj x w i k := fun w k =>
    (Ideal.matmul_plain_apply none _ _ _ i k).trans (by rw [ValueIdx.constant_apply, Ideal.ofBits_zero_f32, zero_add]; rfl)
  refine Finset.sum_congr rfl fun k _ => congrArg (· * _) ?_
  unfold gated
  rw [← mul_logistic, ← hp wg k, ← hp wu k]
  rfl

/-- The rows device `c` reduces. -/
theorem red_apply (A : Dev nD → Vec Ideal S256x256 .f32) (c : Dev nD) (r : Fin 8) (j : Fin 256) :
    redC A c (ValueIdx.ix2 r j) = ∑ s : Dev nD, commC A c (ValueIdx.ix3 s r j) := by
  unfold redC k0_pay3
  simp only [shapeCast_self]
  refine (Ideal.multiReduction_add_single (commC A c) _ _ _ _ _).trans (Finset.sum_congr rfl fun s _ => congrArg (commC A c) ?_)
  funext a; apply Fin.ext; fin_cases a <;> rfl

/-- The result is the sum of the devices' partial products. -/
theorem out_apply (A : Dev nD → Vec Ideal S256x256 .f32) (i j : Fin 256) :
    outC A (ValueIdx.ix2 i j) = ∑ s : Dev nD, A s (ValueIdx.ix2 i j) := by
  unfold outC
  refine (red_apply A _ _ j).trans (Finset.sum_congr rfl fun s _ => congrArg (A s) ?_)
  funext a; apply Fin.ext
  fin_cases a
  · exact Nat.div_add_mod i.val 8
  · rfl

/-! ## The whole from the blocks -/

/-- A sum over the hidden columns, block by block. -/
theorem sum_blocks (f : Fin 16384 → EReal) :
    ∑ K : Fin 16384, f K = ∑ s : Fin 32, ∑ k : Fin 512, f ⟨s.val * 512 + k.val, by omega⟩ := by
  rw [← Fintype.sum_prod_type', ← Equiv.sum_comp (finProdFinEquiv (m := 32) (n := 512))]
  exact Finset.sum_congr rfl fun p _ => congrArg f (Fin.ext (by show p.2.val + 512 * p.1.val = p.1.val * 512 + p.2.val; omega))

/-- The gated product over all hidden columns is the sum over the devices of that over each device's blocks. -/
theorem mlp_blocks (x : (⟨2, ![256, 256]⟩ : Shape).Idx → EReal) (wg wu : (⟨2, ![256, 16384]⟩ : Shape).Idx → EReal)
    (wd : (⟨2, ![16384, 256]⟩ : Shape).Idx → EReal) (i j : Fin 256) :
    mlp x wg wu wd i j
      = ∑ s : Fin 32, mlp x (Layout.block ⟨2, ![256, 512]⟩ ⟨2, ![256, 16384]⟩ 1 32 s wg) (Layout.block ⟨2, ![256, 512]⟩ ⟨2, ![256, 16384]⟩ 1 32 s wu)
          (Layout.block ⟨2, ![512, 256]⟩ ⟨2, ![16384, 256]⟩ 0 32 s wd) i j := by
  have hc : ∀ (w : (⟨2, ![256, 16384]⟩ : Shape).Idx → EReal) (s : Fin 32) (l : Fin 256) (k : Fin 512),
      Layout.block ⟨2, ![256, 512]⟩ ⟨2, ![256, 16384]⟩ 1 32 s w (by decide) (ValueIdx.ix2 l k) = w (ValueIdx.ix2 l ⟨s.val * 512 + k.val, by omega⟩) :=
    fun w s l k => congrArg w (by funext a; apply Fin.ext; fin_cases a <;> rfl)
  have hr : ∀ (s : Fin 32) (k : Fin 512),
      Layout.block ⟨2, ![512, 256]⟩ ⟨2, ![16384, 256]⟩ 0 32 s wd (by decide) (ValueIdx.ix2 k j) = wd (ValueIdx.ix2 ⟨s.val * 512 + k.val, by omega⟩ j) :=
    fun s k => congrArg wd (by funext a; apply Fin.ext; fin_cases a <;> rfl)
  unfold mlp proj
  simp only [hc, hr]
  exact sum_blocks _

/-! ## The reference's side -/

/-- What the reference computes from its arguments. -/
def refOut (x : (⟨2, ![256, 256]⟩ : Shape).Idx → EReal) (wg wu : (⟨2, ![256, 16384]⟩ : Shape).Idx → EReal)
    (wd : (⟨2, ![16384, 256]⟩ : Shape).Idx → EReal) : (⟨2, ![256, 256]⟩ : Shape).Idx → EReal :=
  fun i => mlp x wg wu wd (i 0) (i 1)

end Cert.Run

end
-- ==== Proof.RefValue.lean ====
/-
# The reference's value over the extended reals

The reference's composed operations are, at an index, the gated product over all the hidden columns.
-/
module

public import proofs.«01_k».proof.Proof.Value

@[expose] public section

noncomputable section

namespace Cert.ReferenceIdeal

open Cert.ReferenceIdeal.Facts₀ Cert.ReferenceIdeal.Facts
open Idealize.ShloMosaic Idealize.ShloMosaic.TcCoe Idealize.SL.Sem

/-- The reference's operations, composed, at the exact values. -/
theorem ref_eq (x : FVec Ideal S256x256 .bf16) (wg wu : FVec Ideal S256x16384 .bf16) (wd : FVec Ideal S16384x256 .bf16) :
    Host.dotGeneral dot_S256x16384_S16384x256_S256x256_1_0_0_1_n_n none
      (mulf (Host.dotGeneral dot_S256x256_S256x16384_S256x16384_1_0_0_1_n_n none (extf .f32 x bitsLt_bf16_f32) (extf .f32 wg bitsLt_bf16_f32))
        (Host.divf (Host.dotGeneral dot_S256x256_S256x16384_S256x16384_1_0_0_1_n_n none (extf .f32 x bitsLt_bf16_f32) (extf .f32 wu bitsLt_bf16_f32))
          (addf (broadcastInDim S256x16384 ![] bcast_S_S256x16384 (constant S_ .f32 0x3F800000#32))
            (Host.exp (Host.negf (Host.dotGeneral dot_S256x256_S256x16384_S256x16384_1_0_0_1_n_n none (extf .f32 x bitsLt_bf16_f32) (extf .f32 wu bitsLt_bf16_f32)))))))
      (extf .f32 wd bitsLt_bf16_f32) = Run.refOut x wg wu wd := by
  have hp : ∀ (w : FVec Ideal S256x16384 .bf16) (i : Fin 256) (k : Fin 16384),
      Host.dotGeneral (F := Ideal) dot_S256x256_S256x16384_S256x16384_1_0_0_1_n_n none (extf .f32 x bitsLt_bf16_f32) (extf .f32 w bitsLt_bf16_f32)
        (ValueIdx.ix2 i k) = Run.proj x w i k := fun w i k =>
    StackMember.dotGeneral_plain_apply none _ _ i k
  have hq : ∀ (A : FVec Ideal S256x16384 .f32) (B : FVec Ideal S16384x256 .f32) (i j : Fin 256),
      Host.dotGeneral (F := Ideal) dot_S256x16384_S16384x256_S256x256_1_0_0_1_n_n none A B (ValueIdx.ix2 i j)
        = ∑ k : Fin 16384, A (ValueIdx.ix2 i k) * B (ValueIdx.ix2 k j) := fun A B i j =>
    StackMember.dotGeneral_plain_apply none A B i j
  funext i
  obtain ⟨a, b, rfl⟩ : ∃ a b : Fin 256, i = ValueIdx.ix2 a b := ⟨i 0, i 1, ValueIdx.eq_ix2 i⟩
  rw [hq]
  show _ = Run.mlp x wg wu wd a b
  unfold Run.mlp
  refine Finset.sum_congr rfl fun k _ => congrArg (· * wd (ValueIdx.ix2 k b)) ?_
  unfold Run.gated
  rw [← hp wg a k, ← hp wu a k, ← Ideal.ofBits_one_f32]
  rfl

end Cert.ReferenceIdeal

end
-- ==== Proof.Equal.lean ====
/-
# The kernel's result is the reference's

Every window's one block is its whole array, so the run's contents are the argument arrays themselves and the result
array ends at the reduced sum; with each device holding its block of the weights this is what the reference computes.
-/
module

public import proofs.«01_k».proof.Proof.RefValue

@[expose] public section

noncomputable section

namespace Cert.Run

open Cert.KernelIdeal Cert.KernelIdeal.Gen
open Idealize.ShloMosaic Idealize.ShloMosaic.TcCoe Idealize.SL.Sem

section
variable {F : FTy → Type} [FloatOps F] (m : (ℓ : Loc nD τ sig) → Buf (Elt F) ℓ) (ρ : Dev nD → PrngReg)

/-- The staged inputs are the argument arrays. -/
theorem x_eq (c : Dev nD) : xAt m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
/-- The staged gate weights are their argument array. -/
theorem wg_eq (c : Dev nD) : wgAt m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
/-- The staged up weights are their argument array. -/
theorem wu_eq (c : Dev nD) : wuAt m c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
/-- The staged down weights are their argument array. -/
theorem wd_eq (c : Dev nD) : wdAt m c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _

/-- The result array ends at the reduced sum. -/
theorem final_out (c : Dev nD) : finalA m ρ c (4 : Fin 5) = outC (part m) :=
  (dats m ρ 0 c).arrAt_eq_of_after_last (4 : Fin 5) t0_0 (by decide +kernel) _ fun j => rfl

end

/-- Over the extended reals, with each device holding its blocks, the reduced sum is the reference's result. -/
theorem out_eq (m : (ℓ : Loc nD τ sig) → Buf (Elt Ideal) ℓ) (x : (⟨2, ![256, 256]⟩ : Shape).Idx → EReal)
    (wg wu : (⟨2, ![256, 16384]⟩ : Shape).Idx → EReal) (wd : (⟨2, ![16384, 256]⟩ : Shape).Idx → EReal)
    (hx : ∀ c : Dev nD, m ((c : Thread nD τ).loc main_arg0) = x)
    (hg : ∀ c : Dev nD, m ((c : Thread nD τ).loc main_arg1) = Layout.block ⟨2, ![256, 512]⟩ ⟨2, ![256, 16384]⟩ 1 32 c wg)
    (hu : ∀ c : Dev nD, m ((c : Thread nD τ).loc main_arg2) = Layout.block ⟨2, ![256, 512]⟩ ⟨2, ![256, 16384]⟩ 1 32 c wu)
    (hd : ∀ c : Dev nD, m ((c : Thread nD τ).loc main_arg3) = Layout.block ⟨2, ![512, 256]⟩ ⟨2, ![16384, 256]⟩ 0 32 c wd) :
    outC (part m) = refOut x wg wu wd := by
  funext i
  obtain ⟨a, b, rfl⟩ : ∃ a b : Fin 256, i = ValueIdx.ix2 a b := ⟨i 0, i 1, ValueIdx.eq_ix2 i⟩
  refine (out_apply _ a b).trans ?_
  show _ = mlp x wg wu wd a b
  rw [mlp_blocks]
  refine Finset.sum_congr rfl fun s _ => ?_
  unfold part
  rw [pay1_apply, x_eq, wg_eq, wu_eq, wd_eq, hx, hg, hu, hd]

/-- The value claim: on every device the kernel's result array ends at what the reference computes. -/
theorem algebraic : Cert.algebraic_KernelIdeal_ReferenceIdeal := by
  intro m ρ m' ρ' _ h
  refine ⟨refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)), ?_, ?_⟩
  · exact (θ_run Cert.KernelIdeal.defs _ _).mono (fun _ hr c =>
      ⟨((hr.1 c (4 : Fin 5)).trans (final_out m ρ c)).trans
          (out_eq m _ _ _ _ (fun c => (h c).1) (fun c => (h c).2.1) (fun c => (h c).2.2.1) (fun c => (h c).2.2.2)),
        (hr.1 c (0 : Fin 5)).trans (final_in m ρ c 0 rfl), (hr.1 c (1 : Fin 5)).trans (final_in m ρ c 1 rfl),
        (hr.1 c (2 : Fin 5)).trans (final_in m ρ c 2 rfl), (hr.1 c (3 : Fin 5)).trans (final_in m ρ c 3 rfl)⟩)
      (run_main (F := Ideal) m ρ)
  · exact (θ_run Cert.ReferenceIdeal.defs _ _).mono (fun _ hr => ⟨(hr 0).1.trans (Cert.ReferenceIdeal.ref_eq _ _ _ _), (hr 0).2⟩)
      (Cert.ReferenceIdeal.Value.run (F := Ideal) m' ρ')

end Cert.Run

end
-- ==== Proof.lean ====
/-
# The certificate

The five claims about the gated MLP on 32 devices: the compiled kernel, the kernel over the extended reals and the
reference each keep their arguments and end with every counter at zero; the kernel is read over the extended reals as it
stands; and there its result, on every device, is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim :=
  ⟨Cert.Kernel.Gen.facts, Cert.KernelIdeal.Gen.facts, Cert.ReferenceIdeal.Gen.facts,
    Cert.Run.frame_kernel, Cert.Run.frame_kernelIdeal, Cert.Run.frame_reference, trivial, Cert.Run.algebraic⟩

end Cert.Proof

end
